-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 2] ![[], [1]] c) (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v11) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ quiescent_DistinctIdeal (hDistinctIdeal := hDistinctIdeal)
    ∧ preserves_Kernel_KernelIdeal
    ∧ algebraic_KernelIdeal_ReferenceIdeal_on_untied (hKernelIdeal := hKernelIdeal) (hReferenceIdeal := hReferenceIdeal) (hOn_untied := hOn_untied)
    ∧ algebraic_KernelIdeal_DistinctIdeal (hKernelIdeal := hKernelIdeal) (hDistinctIdeal := hDistinctIdeal)
-- ==== On_untied.lean ====
abbrev S256x2048 : Shape := ⟨2, ![256, 2048]⟩
abbrev S_ : Shape := ⟨0, ![]⟩
abbrev S256x1 : Shape := ⟨2, ![256, 1]⟩
abbrev S256x8 : Shape := ⟨2, ![256, 8]⟩

class Facts : Prop where
  bitsLt_bf16_f32 : FTy.bits .bf16 < FTy.bits .f32
  bcast_S_S256x1 : S_.BroadcastsInDim S256x1 (![] : Fin 0 → Fin S256x1.rank)
  slices_S256x2048_S256x1_0_0 : S256x2048.Slices ![0, 0] S256x1
  slices_S256x2048_S256x1_0_1 : S256x2048.Slices ![0, 1] S256x1
  slices_S256x2048_S256x1_0_2 : S256x2048.Slices ![0, 2] S256x1
  slices_S256x2048_S256x1_0_3 : S256x2048.Slices ![0, 3] S256x1
  slices_S256x2048_S256x1_0_4 : S256x2048.Slices ![0, 4] S256x1
  slices_S256x2048_S256x1_0_5 : S256x2048.Slices ![0, 5] S256x1
  slices_S256x2048_S256x1_0_6 : S256x2048.Slices ![0, 6] S256x1
  slices_S256x2048_S256x1_0_7 : S256x2048.Slices ![0, 7] S256x1
  concatenates_S256x1_S256x1_S256x1_S256x1_S256x1_S256x1_S256x1_S256x1_S256x8_d1 : Shape.Concatenates [S256x1, S256x1, S256x1, S256x1, S256x1, S256x1, S256x1, S256x1] S256x8 1

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S256x2048 .f32) : FVec F S256x2048 .f32 :=
  let v0 : FVec F S256x2048 .f32 := (fun x => Host.sort S256x2048 1 comparator_f32_d1 x) arg0
  v0

def fn_part1 {F : FTy → Type} [FloatOps F] (main_v2 : FVec F S256x2048 .f32) (main_v3 : IVec S256x1 1) (main_v7 : IVec S256x1 1) (main_v11 : IVec S256x1 1) (main_v15 : IVec S256x1 1) (main_v19 : IVec S256x1 1) (main_v22 : IVec S256x1 1) : IVec S256x8 1 :=
  let main_v23 : IVec S256x1 1 := andi main_v19 main_v22
  let main_v24 : FVec F S256x1 .f32 := (extractStridedSlice S256x1 ![0, 5] · slices_S256x2048_S256x1_0_5) main_v2
  let main_v25 : FVec F S256x1 .f32 := (extractStridedSlice S256x1 ![0, 6] · slices_S256x2048_S256x1_0_6) main_v2
  let main_v26 : IVec S256x1 1 := cmpf .olt main_v24 main_v25
  let main_v27 : IVec S256x1 1 := andi main_v23 main_v26
  let main_v28 : FVec F S256x1 .f32 := (extractStridedSlice S256x1 ![0, 6] · slices_S256x2048_S256x1_0_6) main_v2
  let main_v29 : FVec F S256x1 .f32 := (extractStridedSlice S256x1 ![0, 7] · slices_S256x2048_S256x1_0_7) main_v2
  let main_v30 : IVec S256x1 1 := cmpf .olt main_v28 main_v29
  let main_v31 : IVec S256x1 1 := andi main_v27 main_v30
  let main_v32 : IVec S256x8 1 := concatenate S256x8 1 [⟨S256x1, main_v3⟩, ⟨S256x1, main_v7⟩, ⟨S256x1, main_v11⟩, ⟨S256x1, main_v15⟩, ⟨S256x1, main_v19⟩, ⟨S256x1, main_v23⟩, ⟨S256x1, main_v27⟩, ⟨S256x1, main_v31⟩] concatenates_S256x1_S256x1_S256x1_S256x1_S256x1_S256x1_S256x1_S256x1_S256x8_d1
  main_v32

def fn {F : FTy → Type} [FloatOps F] (main_arg0 : FVec F S256x2048 .bf16) : IVec S256x8 1 :=
  let main_v0 : FVec F S256x2048 .f32 := (extf .f32 · bitsLt_bf16_f32) main_arg0
  let main_v1 : FVec F S256x2048 .f32 := Host.negf main_v0
  let main_v2 : FVec F S256x2048 .f32 := fn_sort (F := F) main_v1
  let main_c : IVec S_ 1 := constantI S_ 1 1#1
  let main_v3 : IVec S256x1 1 := broadcastInDim S256x1 ![] bcast_S_S256x1 main_c
  let main_v4 : FVec F S256x1 .f32 := (extractStridedSlice S256x1 ![0, 0] · slices_S256x2048_S256x1_0_0) main_v2
  let main_v5 : FVec F S256x1 .f32 := (extractStridedSlice S256x1 ![0, 1] · slices_S256x2048_S256x1_0_1) main_v2
  let main_v6 : IVec S256x1 1 := cmpf .olt main_v4 main_v5
  let main_v7 : IVec S256x1 1 := andi main_v3 main_v6
  let main_v8 : FVec F S256x1 .f32 := (extractStridedSlice S256x1 ![0, 1] · slices_S256x2048_S256x1_0_1) main_v2
  let main_v9 : FVec F S256x1 .f32 := (extractStridedSlice S256x1 ![0, 2] · slices_S256x2048_S256x1_0_2) main_v2
  let main_v10 : IVec S256x1 1 := cmpf .olt main_v8 main_v9
  let main_v11 : IVec S256x1 1 := andi main_v7 main_v10
  let main_v12 : FVec F S256x1 .f32 := (extractStridedSlice S256x1 ![0, 2] · slices_S256x2048_S256x1_0_2) main_v2
  let main_v13 : FVec F S256x1 .f32 := (extractStridedSlice S256x1 ![0, 3] · slices_S256x2048_S256x1_0_3) main_v2
  let main_v14 : IVec S256x1 1 := cmpf .olt main_v12 main_v13
  let main_v15 : IVec S256x1 1 := andi main_v11 main_v14
  let main_v16 : FVec F S256x1 .f32 := (extractStridedSlice S256x1 ![0, 3] · slices_S256x2048_S256x1_0_3) main_v2
  let main_v17 : FVec F S256x1 .f32 := (extractStridedSlice S256x1 ![0, 4] · slices_S256x2048_S256x1_0_4) main_v2
  let main_v18 : IVec S256x1 1 := cmpf .olt main_v16 main_v17
  let main_v19 : IVec S256x1 1 := andi main_v15 main_v18
  let main_v20 : FVec F S256x1 .f32 := (extractStridedSlice S256x1 ![0, 4] · slices_S256x2048_S256x1_0_4) main_v2
  let main_v21 : FVec F S256x1 .f32 := (extractStridedSlice S256x1 ![0, 5] · slices_S256x2048_S256x1_0_5) main_v2
  let main_v22 : IVec S256x1 1 := cmpf .olt main_v20 main_v21
  fn_part1 (F := F) main_v2 main_v3 main_v7 main_v11 main_v15 main_v19 main_v22
-- ==== Kernel.lean ====
abbrev S256x1024 : Shape := ⟨2, ![256, 1024]⟩
abbrev S256x8 : Shape := ⟨2, ![256, 8]⟩
abbrev S8x256x8 : Shape := ⟨3, ![8, 256, 8]⟩
abbrev S8 : Shape := ⟨1, ![8]⟩
abbrev S_ : Shape := ⟨0, ![]⟩
abbrev S256x256 : Shape := ⟨2, ![256, 256]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x64 : Shape := ⟨2, ![256, 64]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S256x8, .f32⟩
  | .local _ .vmem, ⟨3, _⟩ => ⟨S8x256x8, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let v14 : BitVec 1 := Scalar.cmpi .ne v12 c0_i32
  let v15 : BitVec 32 := Scalar.extui v14
  let c0_i32_5 : BitVec 32 := 0#32
  let v16 : BitVec 1 := Scalar.cmpi .ne v15 c0_i32_5
  v16

def k0_dev1 : Nat :=
  let c0_i32_121 : BitVec 32 := 0#32
  let c0_i32_117 : BitVec 32 := 0#32
  let c4_i32_120 : BitVec 32 := 4#32
  let v228 : BitVec 32 := Scalar.muli c0_i32_117 c4_i32_120
  let v229 : BitVec 32 := Scalar.addi c0_i32_121 v228
  let c0_i32_118 : BitVec 32 := 0#32
  let c2_i32_122 : BitVec 32 := 2#32
  let v230 : BitVec 32 := Scalar.muli c0_i32_118 c2_i32_122
  let v231 : BitVec 32 := Scalar.addi v229 v230
  let c0_i32_119 : BitVec 32 := 0#32
  let c1_i32_123 : BitVec 32 := 1#32
  let v232 : BitVec 32 := Scalar.muli c0_i32_119 c1_i32_123
  let v233 : BitVec 32 := Scalar.addi v231 v232
  v233.toNat
def k0_cond2 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_6 : BitVec 32 := 1#32
  let v17 : BitVec 1 := Scalar.cmpi .ne v12 c1_i32_6
  let v18 : BitVec 32 := Scalar.extui v17
  let c0_i32_7 : BitVec 32 := 0#32
  let v19 : BitVec 1 := Scalar.cmpi .ne v18 c0_i32_7
  v19

def k0_dev2 : Nat :=
  let c0_i32_121 : BitVec 32 := 0#32
  let c0_i32_117 : BitVec 32 := 0#32
  let c4_i32_120 : BitVec 32 := 4#32
  let v228 : BitVec 32 := Scalar.muli c0_i32_117 c4_i32_120
  let v229 : BitVec 32 := Scalar.addi c0_i32_121 v228
  let c0_i32_118 : BitVec 32 := 0#32
  let c2_i32_122 : BitVec 32 := 2#32
  let v230 : BitVec 32 := Scalar.muli c0_i32_118 c2_i32_122
  let v231 : BitVec 32 := Scalar.addi v229 v230
  let c1_i32_119 : BitVec 32 := 1#32
  let c1_i32_123 : BitVec 32 := 1#32
  let v232 : BitVec 32 := Scalar.muli c1_i32_119 c1_i32_123
  let v233 : BitVec 32 := Scalar.addi v231 v232
  v233.toNat
def k0_cond3 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_8 : BitVec 32 := 2#32
  let v20 : BitVec 1 := Scalar.cmpi .ne v12 c2_i32_8
  let v21 : BitVec 32 := Scalar.extui v20
  let c0_i32_9 : BitVec 32 := 0#32
  let v22 : BitVec 1 := Scalar.cmpi .ne v21 c0_i32_9
  v22

def k0_dev3 : Nat :=
  let c0_i32_121 : BitVec 32 := 0#32
  let c0_i32_117 : BitVec 32 := 0#32
  let c4_i32_120 : BitVec 32 := 4#32
  let v228 : BitVec 32 := Scalar.muli c0_i32_117 c4_i32_120
  let v229 : BitVec 32 := Scalar.addi c0_i32_121 v228
  let c1_i32_118 : BitVec 32 := 1#32
  let c2_i32_122 : BitVec 32 := 2#32
  let v230 : BitVec 32 := Scalar.muli c1_i32_118 c2_i32_122
  let v231 : BitVec 32 := Scalar.addi v229 v230
  let c0_i32_119 : BitVec 32 := 0#32
  let c1_i32_123 : BitVec 32 := 1#32
  let v232 : BitVec 32 := Scalar.muli c0_i32_119 c1_i32_123
  let v233 : BitVec 32 := Scalar.addi v231 v232
  v233.toNat
def k0_cond4 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32 : BitVec 32 := 3#32
  let v23 : BitVec 1 := Scalar.cmpi .ne v12 c3_i32
  let v24 : BitVec 32 := Scalar.extui v23
  let c0_i32_10 : BitVec 32 := 0#32
  let v25 : BitVec 1 := Scalar.cmpi .ne v24 c0_i32_10
  v25

def k0_dev4 : Nat :=
  let c0_i32_121 : BitVec 32 := 0#32
  let c0_i32_117 : BitVec 32 := 0#32
  let c4_i32_120 : BitVec 32 := 4#32
  let v228 : BitVec 32 := Scalar.muli c0_i32_117 c4_i32_120
  let v229 : BitVec 32 := Scalar.addi c0_i32_121 v228
  let c1_i32_118 : BitVec 32 := 1#32
  let c2_i32_122 : BitVec 32 := 2#32
  let v230 : BitVec 32 := Scalar.muli c1_i32_118 c2_i32_122
  let v231 : BitVec 32 := Scalar.addi v229 v230
  let c1_i32_119 : BitVec 32 := 1#32
  let c1_i32_123 : BitVec 32 := 1#32
  let v232 : BitVec 32 := Scalar.muli c1_i32_119 c1_i32_123
  let v233 : BitVec 32 := Scalar.addi v231 v232
  v233.toNat
def k0_cond5 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_11 : BitVec 32 := 4#32
  let v26 : BitVec 1 := Scalar.cmpi .ne v12 c4_i32_11
  let v27 : BitVec 32 := Scalar.extui v26
  let c0_i32_12 : BitVec 32 := 0#32
  let v28 : BitVec 1 := Scalar.cmpi .ne v27 c0_i32_12
  v28

def k0_dev5 : Nat :=
  let c0_i32_121 : BitVec 32 := 0#32
  let c1_i32_117 : BitVec 32 := 1#32
  let c4_i32_120 : BitVec 32 := 4#32
  let v228 : BitVec 32 := Scalar.muli c1_i32_117 c4_i32_120
  let v229 : BitVec 32 := Scalar.addi c0_i32_121 v228
  let c0_i32_118 : BitVec 32 := 0#32
  let c2_i32_122 : BitVec 32 := 2#32
  let v230 : BitVec 32 := Scalar.muli c0_i32_118 c2_i32_122
  let v231 : BitVec 32 := Scalar.addi v229 v230
  let c0_i32_119 : BitVec 32 := 0#32
  let c1_i32_123 : BitVec 32 := 1#32
  let v232 : BitVec 32 := Scalar.muli c0_i32_119 c1_i32_123
  let v233 : BitVec 32 := Scalar.addi v231 v232
  v233.toNat
def k0_cond6 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32 : BitVec 32 := 5#32
  let v29 : BitVec 1 := Scalar.cmpi .ne v12 c5_i32
  let v30 : BitVec 32 := Scalar.extui v29
  let c0_i32_13 : BitVec 32 := 0#32
  let v31 : BitVec 1 := Scalar.cmpi .ne v30 c0_i32_13
  v31

def k0_dev6 : Nat :=
  let c0_i32_121 : BitVec 32 := 0#32
  let c1_i32_117 : BitVec 32 := 1#32
  let c4_i32_120 : BitVec 32 := 4#32
  let v228 : BitVec 32 := Scalar.muli c1_i32_117 c4_i32_120
  let v229 : BitVec 32 := Scalar.addi c0_i32_121 v228
  let c0_i32_118 : BitVec 32 := 0#32
  let c2_i32_122 : BitVec 32 := 2#32
  let v230 : BitVec 32 := Scalar.muli c0_i32_118 c2_i32_122
  let v231 : BitVec 32 := Scalar.addi v229 v230
  let c1_i32_119 : BitVec 32 := 1#32
  let c1_i32_123 : BitVec 32 := 1#32
  let v232 : BitVec 32 := Scalar.muli c1_i32_119 c1_i32_123
  let v233 : BitVec 32 := Scalar.addi v231 v232
  v233.toNat
def k0_cond7 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32 : BitVec 32 := 6#32
  let v32 : BitVec 1 := Scalar.cmpi .ne v12 c6_i32
  let v33 : BitVec 32 := Scalar.extui v32
  let c0_i32_14 : BitVec 32 := 0#32
  let v34 : BitVec 1 := Scalar.cmpi .ne v33 c0_i32_14
  v34

def k0_dev7 : Nat :=
  let c0_i32_121 : BitVec 32 := 0#32
  let c1_i32_117 : BitVec 32 := 1#32
  let c4_i32_120 : BitVec 32 := 4#32
  let v228 : BitVec 32 := Scalar.muli c1_i32_117 c4_i32_120
  let v229 : BitVec 32 := Scalar.addi c0_i32_121 v228
  let c1_i32_118 : BitVec 32 := 1#32
  let c2_i32_122 : BitVec 32 := 2#32
  let v230 : BitVec 32 := Scalar.muli c1_i32_118 c2_i32_122
  let v231 : BitVec 32 := Scalar.addi v229 v230
  let c0_i32_119 : BitVec 32 := 0#32
  let c1_i32_123 : BitVec 32 := 1#32
  let v232 : BitVec 32 := Scalar.muli c0_i32_119 c1_i32_123
  let v233 : BitVec 32 := Scalar.addi v231 v232
  v233.toNat
def k0_cond8 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32 : BitVec 32 := 7#32
  let v35 : BitVec 1 := Scalar.cmpi .ne v12 c7_i32
  let v36 : BitVec 32 := Scalar.extui v35
  let c0_i32_15 : BitVec 32 := 0#32
  let v37 : BitVec 1 := Scalar.cmpi .ne v36 c0_i32_15
  v37

def k0_dev8 : Nat :=
  let c0_i32_121 : BitVec 32 := 0#32
  let c1_i32_117 : BitVec 32 := 1#32
  let c4_i32_120 : BitVec 32 := 4#32
  let v228 : BitVec 32 := Scalar.muli c1_i32_117 c4_i32_120
  let v229 : BitVec 32 := Scalar.addi c0_i32_121 v228
  let c1_i32_118 : BitVec 32 := 1#32
  let c2_i32_122 : BitVec 32 := 2#32
  let v230 : BitVec 32 := Scalar.muli c1_i32_118 c2_i32_122
  let v231 : BitVec 32 := Scalar.addi v229 v230
  let c1_i32_119 : BitVec 32 := 1#32
  let c1_i32_123 : BitVec 32 := 1#32
  let v232 : BitVec 32 := Scalar.muli c1_i32_119 c1_i32_123
  let v233 : BitVec 32 := Scalar.addi v231 v232
  v233.toNat
def k0_off1 (d0 : Dev nD) : Fin 2 → Nat :=
  let c0 : Index := 0#32
  let c2_i32_16 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.muli c2_i32_16 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c256_i32 : BitVec 32 := 256#32
  let v40 : BitVec 32 := Scalar.muli v39 c256_i32
  let v41 : Index := Scalar.indexCast v40
  ![0, v41.toNat]
def k0_cond9 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_34 : BitVec 32 := 0#32
  let v93 : BitVec 1 := Scalar.cmpi .eq v12 c0_i32_34
  let v94 : BitVec 32 := Scalar.extui v93
  let c0_i32_35 : BitVec 32 := 0#32
  let v95 : BitVec 1 := Scalar.cmpi .ne v94 c0_i32_35
  v95

def k0_dev9 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c1_i32_126 : BitVec 32 := 1#32
  let c1_i32_130 : BitVec 32 := 1#32
  let v236 : BitVec 32 := Scalar.muli c1_i32_126 c1_i32_130
  let v237 : BitVec 32 := Scalar.addi v235 v236
  v237.toNat
def k0_dev10 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c1_i32_137 : BitVec 32 := 1#32
  let c2_i32_141 : BitVec 32 := 2#32
  let v246 : BitVec 32 := Scalar.muli c1_i32_137 c2_i32_141
  let v247 : BitVec 32 := Scalar.addi v245 v246
  let c0_i32_138 : BitVec 32 := 0#32
  let c1_i32_142 : BitVec 32 := 1#32
  let v248 : BitVec 32 := Scalar.muli c0_i32_138 c1_i32_142
  let v249 : BitVec 32 := Scalar.addi v247 v248
  v249.toNat
def k0_dev11 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c1_i32_150 : BitVec 32 := 1#32
  let c1_i32_154 : BitVec 32 := 1#32
  let v260 : BitVec 32 := Scalar.muli c1_i32_150 c1_i32_154
  let v261 : BitVec 32 := Scalar.addi v259 v260
  v261.toNat
def k0_dev12 : Nat :=
  let c0_i32_164 : BitVec 32 := 0#32
  let c1_i32_160 : BitVec 32 := 1#32
  let c4_i32_163 : BitVec 32 := 4#32
  let v268 : BitVec 32 := Scalar.muli c1_i32_160 c4_i32_163
  let v269 : BitVec 32 := Scalar.addi c0_i32_164 v268
  let c0_i32_161 : BitVec 32 := 0#32
  let c2_i32_165 : BitVec 32 := 2#32
  let v270 : BitVec 32 := Scalar.muli c0_i32_161 c2_i32_165
  let v271 : BitVec 32 := Scalar.addi v269 v270
  let c0_i32_162 : BitVec 32 := 0#32
  let c1_i32_166 : BitVec 32 := 1#32
  let v272 : BitVec 32 := Scalar.muli c0_i32_162 c1_i32_166
  let v273 : BitVec 32 := Scalar.addi v271 v272
  v273.toNat
def k0_dev13 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c1_i32_174 : BitVec 32 := 1#32
  let c1_i32_178 : BitVec 32 := 1#32
  let v284 : BitVec 32 := Scalar.muli c1_i32_174 c1_i32_178
  let v285 : BitVec 32 := Scalar.addi v283 v284
  v285.toNat
def k0_dev14 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c1_i32_185 : BitVec 32 := 1#32
  let c2_i32_189 : BitVec 32 := 2#32
  let v294 : BitVec 32 := Scalar.muli c1_i32_185 c2_i32_189
  let v295 : BitVec 32 := Scalar.addi v293 v294
  let c0_i32_186 : BitVec 32 := 0#32
  let c1_i32_190 : BitVec 32 := 1#32
  let v296 : BitVec 32 := Scalar.muli c0_i32_186 c1_i32_190
  let v297 : BitVec 32 := Scalar.addi v295 v296
  v297.toNat
def k0_dev15 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond10 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1_i32_36 : BitVec 32 := 1#32
  let v96 : BitVec 1 := Scalar.cmpi .eq v12 c1_i32_36
  let v97 : BitVec 32 := Scalar.extui v96
  let c0_i32_37 : BitVec 32 := 0#32
  let v98 : BitVec 1 := Scalar.cmpi .ne v97 c0_i32_37
  v98

def k0_dev16 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev17 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c1_i32_137 : BitVec 32 := 1#32
  let c2_i32_141 : BitVec 32 := 2#32
  let v246 : BitVec 32 := Scalar.muli c1_i32_137 c2_i32_141
  let v247 : BitVec 32 := Scalar.addi v245 v246
  let c0_i32_138 : BitVec 32 := 0#32
  let c1_i32_142 : BitVec 32 := 1#32
  let v248 : BitVec 32 := Scalar.muli c0_i32_138 c1_i32_142
  let v249 : BitVec 32 := Scalar.addi v247 v248
  v249.toNat
def k0_dev18 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c1_i32_150 : BitVec 32 := 1#32
  let c1_i32_154 : BitVec 32 := 1#32
  let v260 : BitVec 32 := Scalar.muli c1_i32_150 c1_i32_154
  let v261 : BitVec 32 := Scalar.addi v259 v260
  v261.toNat
def k0_dev19 : Nat :=
  let c0_i32_164 : BitVec 32 := 0#32
  let c1_i32_160 : BitVec 32 := 1#32
  let c4_i32_163 : BitVec 32 := 4#32
  let v268 : BitVec 32 := Scalar.muli c1_i32_160 c4_i32_163
  let v269 : BitVec 32 := Scalar.addi c0_i32_164 v268
  let c0_i32_161 : BitVec 32 := 0#32
  let c2_i32_165 : BitVec 32 := 2#32
  let v270 : BitVec 32 := Scalar.muli c0_i32_161 c2_i32_165
  let v271 : BitVec 32 := Scalar.addi v269 v270
  let c0_i32_162 : BitVec 32 := 0#32
  let c1_i32_166 : BitVec 32 := 1#32
  let v272 : BitVec 32 := Scalar.muli c0_i32_162 c1_i32_166
  let v273 : BitVec 32 := Scalar.addi v271 v272
  v273.toNat
def k0_dev20 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c1_i32_174 : BitVec 32 := 1#32
  let c1_i32_178 : BitVec 32 := 1#32
  let v284 : BitVec 32 := Scalar.muli c1_i32_174 c1_i32_178
  let v285 : BitVec 32 := Scalar.addi v283 v284
  v285.toNat
def k0_dev21 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c1_i32_185 : BitVec 32 := 1#32
  let c2_i32_189 : BitVec 32 := 2#32
  let v294 : BitVec 32 := Scalar.muli c1_i32_185 c2_i32_189
  let v295 : BitVec 32 := Scalar.addi v293 v294
  let c0_i32_186 : BitVec 32 := 0#32
  let c1_i32_190 : BitVec 32 := 1#32
  let v296 : BitVec 32 := Scalar.muli c0_i32_186 c1_i32_190
  let v297 : BitVec 32 := Scalar.addi v295 v296
  v297.toNat
def k0_dev22 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond11 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c2_i32_38 : BitVec 32 := 2#32
  let v99 : BitVec 1 := Scalar.cmpi .eq v12 c2_i32_38
  let v100 : BitVec 32 := Scalar.extui v99
  let c0_i32_39 : BitVec 32 := 0#32
  let v101 : BitVec 1 := Scalar.cmpi .ne v100 c0_i32_39
  v101

def k0_dev23 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev24 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c0_i32_137 : BitVec 32 := 0#32
  let c2_i32_141 : BitVec 32 := 2#32
  let v246 : BitVec 32 := Scalar.muli c0_i32_137 c2_i32_141
  let v247 : BitVec 32 := Scalar.addi v245 v246
  let c1_i32_138 : BitVec 32 := 1#32
  let c1_i32_142 : BitVec 32 := 1#32
  let v248 : BitVec 32 := Scalar.muli c1_i32_138 c1_i32_142
  let v249 : BitVec 32 := Scalar.addi v247 v248
  v249.toNat
def k0_dev25 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c1_i32_150 : BitVec 32 := 1#32
  let c1_i32_154 : BitVec 32 := 1#32
  let v260 : BitVec 32 := Scalar.muli c1_i32_150 c1_i32_154
  let v261 : BitVec 32 := Scalar.addi v259 v260
  v261.toNat
def k0_dev26 : Nat :=
  let c0_i32_164 : BitVec 32 := 0#32
  let c1_i32_160 : BitVec 32 := 1#32
  let c4_i32_163 : BitVec 32 := 4#32
  let v268 : BitVec 32 := Scalar.muli c1_i32_160 c4_i32_163
  let v269 : BitVec 32 := Scalar.addi c0_i32_164 v268
  let c0_i32_161 : BitVec 32 := 0#32
  let c2_i32_165 : BitVec 32 := 2#32
  let v270 : BitVec 32 := Scalar.muli c0_i32_161 c2_i32_165
  let v271 : BitVec 32 := Scalar.addi v269 v270
  let c0_i32_162 : BitVec 32 := 0#32
  let c1_i32_166 : BitVec 32 := 1#32
  let v272 : BitVec 32 := Scalar.muli c0_i32_162 c1_i32_166
  let v273 : BitVec 32 := Scalar.addi v271 v272
  v273.toNat
def k0_dev27 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c1_i32_174 : BitVec 32 := 1#32
  let c1_i32_178 : BitVec 32 := 1#32
  let v284 : BitVec 32 := Scalar.muli c1_i32_174 c1_i32_178
  let v285 : BitVec 32 := Scalar.addi v283 v284
  v285.toNat
def k0_dev28 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c1_i32_185 : BitVec 32 := 1#32
  let c2_i32_189 : BitVec 32 := 2#32
  let v294 : BitVec 32 := Scalar.muli c1_i32_185 c2_i32_189
  let v295 : BitVec 32 := Scalar.addi v293 v294
  let c0_i32_186 : BitVec 32 := 0#32
  let c1_i32_190 : BitVec 32 := 1#32
  let v296 : BitVec 32 := Scalar.muli c0_i32_186 c1_i32_190
  let v297 : BitVec 32 := Scalar.addi v295 v296
  v297.toNat
def k0_dev29 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond12 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c3_i32_40 : BitVec 32 := 3#32
  let v102 : BitVec 1 := Scalar.cmpi .eq v12 c3_i32_40
  let v103 : BitVec 32 := Scalar.extui v102
  let c0_i32_41 : BitVec 32 := 0#32
  let v104 : BitVec 1 := Scalar.cmpi .ne v103 c0_i32_41
  v104

def k0_dev30 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev31 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c0_i32_137 : BitVec 32 := 0#32
  let c2_i32_141 : BitVec 32 := 2#32
  let v246 : BitVec 32 := Scalar.muli c0_i32_137 c2_i32_141
  let v247 : BitVec 32 := Scalar.addi v245 v246
  let c1_i32_138 : BitVec 32 := 1#32
  let c1_i32_142 : BitVec 32 := 1#32
  let v248 : BitVec 32 := Scalar.muli c1_i32_138 c1_i32_142
  let v249 : BitVec 32 := Scalar.addi v247 v248
  v249.toNat
def k0_dev32 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c0_i32_150 : BitVec 32 := 0#32
  let c1_i32_154 : BitVec 32 := 1#32
  let v260 : BitVec 32 := Scalar.muli c0_i32_150 c1_i32_154
  let v261 : BitVec 32 := Scalar.addi v259 v260
  v261.toNat
def k0_dev33 : Nat :=
  let c0_i32_164 : BitVec 32 := 0#32
  let c1_i32_160 : BitVec 32 := 1#32
  let c4_i32_163 : BitVec 32 := 4#32
  let v268 : BitVec 32 := Scalar.muli c1_i32_160 c4_i32_163
  let v269 : BitVec 32 := Scalar.addi c0_i32_164 v268
  let c0_i32_161 : BitVec 32 := 0#32
  let c2_i32_165 : BitVec 32 := 2#32
  let v270 : BitVec 32 := Scalar.muli c0_i32_161 c2_i32_165
  let v271 : BitVec 32 := Scalar.addi v269 v270
  let c0_i32_162 : BitVec 32 := 0#32
  let c1_i32_166 : BitVec 32 := 1#32
  let v272 : BitVec 32 := Scalar.muli c0_i32_162 c1_i32_166
  let v273 : BitVec 32 := Scalar.addi v271 v272
  v273.toNat
def k0_dev34 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c1_i32_174 : BitVec 32 := 1#32
  let c1_i32_178 : BitVec 32 := 1#32
  let v284 : BitVec 32 := Scalar.muli c1_i32_174 c1_i32_178
  let v285 : BitVec 32 := Scalar.addi v283 v284
  v285.toNat
def k0_dev35 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c1_i32_185 : BitVec 32 := 1#32
  let c2_i32_189 : BitVec 32 := 2#32
  let v294 : BitVec 32 := Scalar.muli c1_i32_185 c2_i32_189
  let v295 : BitVec 32 := Scalar.addi v293 v294
  let c0_i32_186 : BitVec 32 := 0#32
  let c1_i32_190 : BitVec 32 := 1#32
  let v296 : BitVec 32 := Scalar.muli c0_i32_186 c1_i32_190
  let v297 : BitVec 32 := Scalar.addi v295 v296
  v297.toNat
def k0_dev36 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond13 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c4_i32_42 : BitVec 32 := 4#32
  let v105 : BitVec 1 := Scalar.cmpi .eq v12 c4_i32_42
  let v106 : BitVec 32 := Scalar.extui v105
  let c0_i32_43 : BitVec 32 := 0#32
  let v107 : BitVec 1 := Scalar.cmpi .ne v106 c0_i32_43
  v107

def k0_dev37 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev38 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c0_i32_137 : BitVec 32 := 0#32
  let c2_i32_141 : BitVec 32 := 2#32
  let v246 : BitVec 32 := Scalar.muli c0_i32_137 c2_i32_141
  let v247 : BitVec 32 := Scalar.addi v245 v246
  let c1_i32_138 : BitVec 32 := 1#32
  let c1_i32_142 : BitVec 32 := 1#32
  let v248 : BitVec 32 := Scalar.muli c1_i32_138 c1_i32_142
  let v249 : BitVec 32 := Scalar.addi v247 v248
  v249.toNat
def k0_dev39 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c0_i32_150 : BitVec 32 := 0#32
  let c1_i32_154 : BitVec 32 := 1#32
  let v260 : BitVec 32 := Scalar.muli c0_i32_150 c1_i32_154
  let v261 : BitVec 32 := Scalar.addi v259 v260
  v261.toNat
def k0_dev40 : Nat :=
  let c0_i32_164 : BitVec 32 := 0#32
  let c0_i32_160 : BitVec 32 := 0#32
  let c4_i32_163 : BitVec 32 := 4#32
  let v268 : BitVec 32 := Scalar.muli c0_i32_160 c4_i32_163
  let v269 : BitVec 32 := Scalar.addi c0_i32_164 v268
  let c1_i32_161 : BitVec 32 := 1#32
  let c2_i32_165 : BitVec 32 := 2#32
  let v270 : BitVec 32 := Scalar.muli c1_i32_161 c2_i32_165
  let v271 : BitVec 32 := Scalar.addi v269 v270
  let c1_i32_162 : BitVec 32 := 1#32
  let c1_i32_166 : BitVec 32 := 1#32
  let v272 : BitVec 32 := Scalar.muli c1_i32_162 c1_i32_166
  let v273 : BitVec 32 := Scalar.addi v271 v272
  v273.toNat
def k0_dev41 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c1_i32_174 : BitVec 32 := 1#32
  let c1_i32_178 : BitVec 32 := 1#32
  let v284 : BitVec 32 := Scalar.muli c1_i32_174 c1_i32_178
  let v285 : BitVec 32 := Scalar.addi v283 v284
  v285.toNat
def k0_dev42 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c1_i32_185 : BitVec 32 := 1#32
  let c2_i32_189 : BitVec 32 := 2#32
  let v294 : BitVec 32 := Scalar.muli c1_i32_185 c2_i32_189
  let v295 : BitVec 32 := Scalar.addi v293 v294
  let c0_i32_186 : BitVec 32 := 0#32
  let c1_i32_190 : BitVec 32 := 1#32
  let v296 : BitVec 32 := Scalar.muli c0_i32_186 c1_i32_190
  let v297 : BitVec 32 := Scalar.addi v295 v296
  v297.toNat
def k0_dev43 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond14 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c5_i32_44 : BitVec 32 := 5#32
  let v108 : BitVec 1 := Scalar.cmpi .eq v12 c5_i32_44
  let v109 : BitVec 32 := Scalar.extui v108
  let c0_i32_45 : BitVec 32 := 0#32
  let v110 : BitVec 1 := Scalar.cmpi .ne v109 c0_i32_45
  v110

def k0_dev44 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev45 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c0_i32_137 : BitVec 32 := 0#32
  let c2_i32_141 : BitVec 32 := 2#32
  let v246 : BitVec 32 := Scalar.muli c0_i32_137 c2_i32_141
  let v247 : BitVec 32 := Scalar.addi v245 v246
  let c1_i32_138 : BitVec 32 := 1#32
  let c1_i32_142 : BitVec 32 := 1#32
  let v248 : BitVec 32 := Scalar.muli c1_i32_138 c1_i32_142
  let v249 : BitVec 32 := Scalar.addi v247 v248
  v249.toNat
def k0_dev46 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c0_i32_150 : BitVec 32 := 0#32
  let c1_i32_154 : BitVec 32 := 1#32
  let v260 : BitVec 32 := Scalar.muli c0_i32_150 c1_i32_154
  let v261 : BitVec 32 := Scalar.addi v259 v260
  v261.toNat
def k0_dev47 : Nat :=
  let c0_i32_164 : BitVec 32 := 0#32
  let c0_i32_160 : BitVec 32 := 0#32
  let c4_i32_163 : BitVec 32 := 4#32
  let v268 : BitVec 32 := Scalar.muli c0_i32_160 c4_i32_163
  let v269 : BitVec 32 := Scalar.addi c0_i32_164 v268
  let c1_i32_161 : BitVec 32 := 1#32
  let c2_i32_165 : BitVec 32 := 2#32
  let v270 : BitVec 32 := Scalar.muli c1_i32_161 c2_i32_165
  let v271 : BitVec 32 := Scalar.addi v269 v270
  let c1_i32_162 : BitVec 32 := 1#32
  let c1_i32_166 : BitVec 32 := 1#32
  let v272 : BitVec 32 := Scalar.muli c1_i32_162 c1_i32_166
  let v273 : BitVec 32 := Scalar.addi v271 v272
  v273.toNat
def k0_dev48 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c0_i32_174 : BitVec 32 := 0#32
  let c1_i32_178 : BitVec 32 := 1#32
  let v284 : BitVec 32 := Scalar.muli c0_i32_174 c1_i32_178
  let v285 : BitVec 32 := Scalar.addi v283 v284
  v285.toNat
def k0_dev49 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c1_i32_185 : BitVec 32 := 1#32
  let c2_i32_189 : BitVec 32 := 2#32
  let v294 : BitVec 32 := Scalar.muli c1_i32_185 c2_i32_189
  let v295 : BitVec 32 := Scalar.addi v293 v294
  let c0_i32_186 : BitVec 32 := 0#32
  let c1_i32_190 : BitVec 32 := 1#32
  let v296 : BitVec 32 := Scalar.muli c0_i32_186 c1_i32_190
  let v297 : BitVec 32 := Scalar.addi v295 v296
  v297.toNat
def k0_dev50 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond15 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c6_i32_46 : BitVec 32 := 6#32
  let v111 : BitVec 1 := Scalar.cmpi .eq v12 c6_i32_46
  let v112 : BitVec 32 := Scalar.extui v111
  let c0_i32_47 : BitVec 32 := 0#32
  let v113 : BitVec 1 := Scalar.cmpi .ne v112 c0_i32_47
  v113

def k0_dev51 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev52 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c0_i32_137 : BitVec 32 := 0#32
  let c2_i32_141 : BitVec 32 := 2#32
  let v246 : BitVec 32 := Scalar.muli c0_i32_137 c2_i32_141
  let v247 : BitVec 32 := Scalar.addi v245 v246
  let c1_i32_138 : BitVec 32 := 1#32
  let c1_i32_142 : BitVec 32 := 1#32
  let v248 : BitVec 32 := Scalar.muli c1_i32_138 c1_i32_142
  let v249 : BitVec 32 := Scalar.addi v247 v248
  v249.toNat
def k0_dev53 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c0_i32_150 : BitVec 32 := 0#32
  let c1_i32_154 : BitVec 32 := 1#32
  let v260 : BitVec 32 := Scalar.muli c0_i32_150 c1_i32_154
  let v261 : BitVec 32 := Scalar.addi v259 v260
  v261.toNat
def k0_dev54 : Nat :=
  let c0_i32_164 : BitVec 32 := 0#32
  let c0_i32_160 : BitVec 32 := 0#32
  let c4_i32_163 : BitVec 32 := 4#32
  let v268 : BitVec 32 := Scalar.muli c0_i32_160 c4_i32_163
  let v269 : BitVec 32 := Scalar.addi c0_i32_164 v268
  let c1_i32_161 : BitVec 32 := 1#32
  let c2_i32_165 : BitVec 32 := 2#32
  let v270 : BitVec 32 := Scalar.muli c1_i32_161 c2_i32_165
  let v271 : BitVec 32 := Scalar.addi v269 v270
  let c1_i32_162 : BitVec 32 := 1#32
  let c1_i32_166 : BitVec 32 := 1#32
  let v272 : BitVec 32 := Scalar.muli c1_i32_162 c1_i32_166
  let v273 : BitVec 32 := Scalar.addi v271 v272
  v273.toNat
def k0_dev55 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c0_i32_174 : BitVec 32 := 0#32
  let c1_i32_178 : BitVec 32 := 1#32
  let v284 : BitVec 32 := Scalar.muli c0_i32_174 c1_i32_178
  let v285 : BitVec 32 := Scalar.addi v283 v284
  v285.toNat
def k0_dev56 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c0_i32_185 : BitVec 32 := 0#32
  let c2_i32_189 : BitVec 32 := 2#32
  let v294 : BitVec 32 := Scalar.muli c0_i32_185 c2_i32_189
  let v295 : BitVec 32 := Scalar.addi v293 v294
  let c1_i32_186 : BitVec 32 := 1#32
  let c1_i32_190 : BitVec 32 := 1#32
  let v296 : BitVec 32 := Scalar.muli c1_i32_186 c1_i32_190
  let v297 : BitVec 32 := Scalar.addi v295 v296
  v297.toNat
def k0_dev57 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c1_i32_198 : BitVec 32 := 1#32
  let c1_i32_202 : BitVec 32 := 1#32
  let v308 : BitVec 32 := Scalar.muli c1_i32_198 c1_i32_202
  let v309 : BitVec 32 := Scalar.addi v307 v308
  v309.toNat
def k0_cond16 (d0 : Dev nD) : BitVec 1 :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c7_i32_48 : BitVec 32 := 7#32
  let v114 : BitVec 1 := Scalar.cmpi .eq v12 c7_i32_48
  let v115 : BitVec 32 := Scalar.extui v114
  let c0_i32_49 : BitVec 32 := 0#32
  let v116 : BitVec 1 := Scalar.cmpi .ne v115 c0_i32_49
  v116

def k0_dev58 : Nat :=
  let c0_i32_128 : BitVec 32 := 0#32
  let c0_i32_124 : BitVec 32 := 0#32
  let c4_i32_127 : BitVec 32 := 4#32
  let v232 : BitVec 32 := Scalar.muli c0_i32_124 c4_i32_127
  let v233 : BitVec 32 := Scalar.addi c0_i32_128 v232
  let c0_i32_125 : BitVec 32 := 0#32
  let c2_i32_129 : BitVec 32 := 2#32
  let v234 : BitVec 32 := Scalar.muli c0_i32_125 c2_i32_129
  let v235 : BitVec 32 := Scalar.addi v233 v234
  let c0_i32_126 : BitVec 32 := 0#32
  let c1_i32_130 : BitVec 32 := 1#32
  let v236 : BitVec 32 := Scalar.muli c0_i32_126 c1_i32_130
  let v237 : BitVec 32 := Scalar.addi v235 v236
  v237.toNat
def k0_dev59 : Nat :=
  let c0_i32_140 : BitVec 32 := 0#32
  let c0_i32_136 : BitVec 32 := 0#32
  let c4_i32_139 : BitVec 32 := 4#32
  let v244 : BitVec 32 := Scalar.muli c0_i32_136 c4_i32_139
  let v245 : BitVec 32 := Scalar.addi c0_i32_140 v244
  let c0_i32_137 : BitVec 32 := 0#32
  let c2_i32_141 : BitVec 32 := 2#32
  let v246 : BitVec 32 := Scalar.muli c0_i32_137 c2_i32_141
  let v247 : BitVec 32 := Scalar.addi v245 v246
  let c1_i32_138 : BitVec 32 := 1#32
  let c1_i32_142 : BitVec 32 := 1#32
  let v248 : BitVec 32 := Scalar.muli c1_i32_138 c1_i32_142
  let v249 : BitVec 32 := Scalar.addi v247 v248
  v249.toNat
def k0_dev60 : Nat :=
  let c0_i32_152 : BitVec 32 := 0#32
  let c0_i32_148 : BitVec 32 := 0#32
  let c4_i32_151 : BitVec 32 := 4#32
  let v256 : BitVec 32 := Scalar.muli c0_i32_148 c4_i32_151
  let v257 : BitVec 32 := Scalar.addi c0_i32_152 v256
  let c1_i32_149 : BitVec 32 := 1#32
  let c2_i32_153 : BitVec 32 := 2#32
  let v258 : BitVec 32 := Scalar.muli c1_i32_149 c2_i32_153
  let v259 : BitVec 32 := Scalar.addi v257 v258
  let c0_i32_150 : BitVec 32 := 0#32
  let c1_i32_154 : BitVec 32 := 1#32
  let v260 : BitVec 32 := Scalar.muli c0_i32_150 c1_i32_154
  let v261 : BitVec 32 := Scalar.addi v259 v260
  v261.toNat
def k0_dev61 : Nat :=
  let c0_i32_164 : BitVec 32 := 0#32
  let c0_i32_160 : BitVec 32 := 0#32
  let c4_i32_163 : BitVec 32 := 4#32
  let v268 : BitVec 32 := Scalar.muli c0_i32_160 c4_i32_163
  let v269 : BitVec 32 := Scalar.addi c0_i32_164 v268
  let c1_i32_161 : BitVec 32 := 1#32
  let c2_i32_165 : BitVec 32 := 2#32
  let v270 : BitVec 32 := Scalar.muli c1_i32_161 c2_i32_165
  let v271 : BitVec 32 := Scalar.addi v269 v270
  let c1_i32_162 : BitVec 32 := 1#32
  let c1_i32_166 : BitVec 32 := 1#32
  let v272 : BitVec 32 := Scalar.muli c1_i32_162 c1_i32_166
  let v273 : BitVec 32 := Scalar.addi v271 v272
  v273.toNat
def k0_dev62 : Nat :=
  let c0_i32_176 : BitVec 32 := 0#32
  let c1_i32_172 : BitVec 32 := 1#32
  let c4_i32_175 : BitVec 32 := 4#32
  let v280 : BitVec 32 := Scalar.muli c1_i32_172 c4_i32_175
  let v281 : BitVec 32 := Scalar.addi c0_i32_176 v280
  let c0_i32_173 : BitVec 32 := 0#32
  let c2_i32_177 : BitVec 32 := 2#32
  let v282 : BitVec 32 := Scalar.muli c0_i32_173 c2_i32_177
  let v283 : BitVec 32 := Scalar.addi v281 v282
  let c0_i32_174 : BitVec 32 := 0#32
  let c1_i32_178 : BitVec 32 := 1#32
  let v284 : BitVec 32 := Scalar.muli c0_i32_174 c1_i32_178
  let v285 : BitVec 32 := Scalar.addi v283 v284
  v285.toNat
def k0_dev63 : Nat :=
  let c0_i32_188 : BitVec 32 := 0#32
  let c1_i32_184 : BitVec 32 := 1#32
  let c4_i32_187 : BitVec 32 := 4#32
  let v292 : BitVec 32 := Scalar.muli c1_i32_184 c4_i32_187
  let v293 : BitVec 32 := Scalar.addi c0_i32_188 v292
  let c0_i32_185 : BitVec 32 := 0#32
  let c2_i32_189 : BitVec 32 := 2#32
  let v294 : BitVec 32 := Scalar.muli c0_i32_185 c2_i32_189
  let v295 : BitVec 32 := Scalar.addi v293 v294
  let c1_i32_186 : BitVec 32 := 1#32
  let c1_i32_190 : BitVec 32 := 1#32
  let v296 : BitVec 32 := Scalar.muli c1_i32_186 c1_i32_190
  let v297 : BitVec 32 := Scalar.addi v295 v296
  v297.toNat
def k0_dev64 : Nat :=
  let c0_i32_200 : BitVec 32 := 0#32
  let c1_i32_196 : BitVec 32 := 1#32
  let c4_i32_199 : BitVec 32 := 4#32
  let v304 : BitVec 32 := Scalar.muli c1_i32_196 c4_i32_199
  let v305 : BitVec 32 := Scalar.addi c0_i32_200 v304
  let c1_i32_197 : BitVec 32 := 1#32
  let c2_i32_201 : BitVec 32 := 2#32
  let v306 : BitVec 32 := Scalar.muli c1_i32_197 c2_i32_201
  let v307 : BitVec 32 := Scalar.addi v305 v306
  let c0_i32_198 : BitVec 32 := 0#32
  let c1_i32_202 : BitVec 32 := 1#32
  let v308 : BitVec 32 := Scalar.muli c0_i32_198 c1_i32_202
  let v309 : BitVec 32 := Scalar.addi v307 v308
  v309.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .i32⟩
  | .hbm, ⟨4, _⟩ => ⟨S256x2048, .f32⟩
  | .hbm, ⟨5, _⟩ => ⟨S256x2048, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== DistinctIdeal.lean ====
abbrev S256x2048 : Shape := ⟨2, ![256, 2048]⟩
abbrev S_ : Shape := ⟨0, ![]⟩
abbrev S256x1 : Shape := ⟨2, ![256, 1]⟩
abbrev S256x2047 : Shape := ⟨2, ![256, 2047]⟩
abbrev S256x8 : Shape := ⟨2, ![256, 8]⟩

abbrev nBuf : Space → Nat
  | .hbm => 17
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .i1⟩
  | .hbm, ⟨5, _⟩ => ⟨S256x1, .i1⟩
  | .hbm, ⟨6, _⟩ => ⟨S256x2047, .f32⟩
  | .hbm, ⟨7, _⟩ => ⟨S256x2047, .f32⟩
  | .hbm, ⟨8, _⟩ => ⟨S256x2047, .i1⟩
  | .hbm, ⟨9, _⟩ => ⟨S256x2048, .i1⟩
  | .hbm, ⟨10, _⟩ => ⟨S_, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S256x8, .f32⟩
  | .hbm, ⟨16, _⟩ => ⟨S256x8, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call1_v0 : Ref sig .tc := ⟨.hbm, 11, rfl⟩
abbrev main_call1_v1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Protocol.lean ====
/-
# The exchange of candidates: cells, schedule, contents

Eight devices, each with a barrier semaphore, eight send semaphores and eight receive semaphores. A device signals the
barrier of the seven others, keeps the eight largest distinct values of its own 256 columns in `cand`, waits for the
seven signals, sends `cand` into its own slot of every other device's `gather` buffer, and waits for the other slots to
be filled. One round per cell:

* the barrier cell of `c` is paid by each other device `d` with one unit, handing over `c`'s slot of `d`'s gather buffer;
* the send cell `(c, t)` is paid by `c`'s copy to `t`, handing back the share of `cand` the copy read;
* the receive cell `(c, s)` is paid by `s`'s copy, handing over slot `s` of `c`'s gather buffer holding `s`'s candidates.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueLayout

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The resource algebra: the pipeline's copy and the exchange's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers and semaphores -/

abbrev xM : Memref sig .tc .vmem S256x1024 .bf16 := Memref.whole cc0_stg0_0
abbrev oM : Memref sig .tc .vmem S256x8 .f32 := Memref.whole cc0_stg1_0
abbrev cM : Memref sig .tc .vmem S256x8 .f32 := Memref.whole cc0_scratch0
abbrev gM : Memref sig .tc .vmem S8x256x8 .f32 := Memref.whole cc0_scratch1

theorem inb_slot (s : Fin 8) : ∀ a, (![s.val, 0, 0] : Fin 3 → Nat) a + S1x256x8.size a ≤ S8x256x8.size a := by
  revert s; decide
theorem inb_sem (t : Fin 8) : ∀ a, (![t.val] : Fin 1 → Nat) a + S1.size a ≤ S8.size a := by
  revert t; decide

/-- The rectangle of slot `s` in the gather buffer. -/
abbrev slotR (s : Fin 8) : Rect S8x256x8 := Rect.unit (s := S8x256x8) ![s.val, 0, 0] S1x256x8.size (inb_slot s)
/-- Slot `s` of the gather buffer as a 256 × 8 array. -/
abbrev slotM (s : Fin 8) : Memref sig .tc .vmem S256x8 .f32 :=
  (gM.slice (slotR s) (fun _ => rfl)).squeeze S256x8 squeezes_S1x256x8_S256x8

abbrev barS : Sem sig := (SemArray.scalar (sig.barrier 0 rfl) : Sems sig S_).sem
abbrev sS (t : Fin 8) : DmaSem sig :=
  ((cc0_scratch2.slice (Rect.unit (s := S8) ![t.val] S1.size (inb_sem t))).squeeze S_ squeezes_S1_S_ : DmaSems sig S_).sem
abbrev rS (s : Fin 8) : DmaSem sig :=
  ((cc0_scratch3.slice (Rect.unit (s := S8) ![s.val] S1.size (inb_sem s))).squeeze S_ squeezes_S1_S_ : DmaSems sig S_).sem

/-- The name of one of a device's seventeen cells: its barrier, the send cell towards a device, the receive cell from one. -/
abbrev CK : Type := Unit ⊕ (Fin 8 ⊕ Fin 8)

abbrev csem : CK → SemLoc sig
  | .inl _ => .reg barS
  | .inr (.inl t) => .dma (sS t)
  | .inr (.inr s) => .dma (rS s)

theorem sS_eq (t : Fin 8) : sS t = (⟨2 + t.val, by have := t.isLt; omega⟩ : Fin 18) := by revert t; decide
theorem rS_eq (t : Fin 8) : rS t = (⟨10 + t.val, by have := t.isLt; omega⟩ : Fin 18) := by revert t; decide

theorem csem_injective : Function.Injective csem := by
  rintro (⟨⟩ | t | t) (⟨⟩ | t' | t') h
  · rfl
  · cases h
  · cases h
  · cases h
  · have h' : sS t = sS t' := SemLoc.dma.inj h
    rw [sS_eq, sS_eq] at h'
    rw [show t = t' from Fin.ext (by have := congrArg Fin.val h'; simp only at this; omega)]
  · have h' : sS t = rS t' := SemLoc.dma.inj h
    rw [sS_eq, rS_eq] at h'
    have := congrArg Fin.val h'; simp only at this; omega
  · cases h
  · have h' : rS t = sS t' := SemLoc.dma.inj h
    rw [sS_eq, rS_eq] at h'
    have := congrArg Fin.val h'; simp only at this; omega
  · have h' : rS t = rS t' := SemLoc.dma.inj h
    rw [rS_eq, rS_eq] at h'
    rw [show t = t' from Fin.ext (by have := congrArg Fin.val h'; simp only at this; omega)]

abbrev kcell (ck : Dev nD × CK) : GSem nD τ sig := ((ck.1 : Thread nD τ), csem ck.2)
abbrev barCell (c : Dev nD) : GSem nD τ sig := ((c : Thread nD τ), .reg barS)
abbrev sndCell (c t : Dev nD) : GSem nD τ sig := ((c : Thread nD τ), .dma (sS t))
abbrev rcvCell (c s : Dev nD) : GSem nD τ sig := ((c : Thread nD τ), .dma (rS s))

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The name of the cell a semaphore belongs to, if any. -/
def cls : SemLoc sig → Option CK := Function.partialInv csem
theorem cls_csem (k : CK) : cls (csem k) = some k := Function.partialInv_left csem_injective k
theorem cls_eq_some {sm : SemLoc sig} {k : CK} (h : cls sm = some k) : sm = csem k := by
  have := (Function.partialInv_of_injective csem_injective k sm).mp h
  exact this.symm

/-- The credit one candidate array of 256 × 8 values carries. -/
abbrev N : ℕ := cM.view.dmaCredit
theorem N_pos : 0 < N := View.dmaCredit_pos _ (by decide)
theorem N_slot (s : Fin 8) : (slotM s).view.dmaCredit = N := rfl

/-! ## Contents -/

/-- The staged block of `x` on device `c`. -/
def xstg (c : Dev nD) : (cc0_stg0_0 : Ref sig .tc).ty.Contents (Elt F) :=
  (win0_0.blk (0 : Fin 1)).view.read (Elt F) ((s₀ m ρ).mem ((c : Thread nD τ).loc main_arg0))

/-- The 256 columns device `c` works on. -/
def cols (c : Dev nD) : Vec F S256x256 .bf16 :=
  xM.view.readAt (Elt F) (Rect.unit (s := S256x1024) (k0_off1 c) S256x256.size (k0_off1_inb c)).toLoadRect (xstg m ρ c)

/-- The candidates device `c` computes: the values the kernel stores into `cand`. -/
def candV (c : Dev nD) : Vec F S256x8 .f32 :=
  k0_pay20 (k0_pay10 (cols m ρ c)) (k0_pay12 (cols m ρ c)) (k0_pay14 (cols m ρ c)) (k0_pay16 (cols m ρ c))
    (k0_pay18 (cols m ρ c)) (k0_pay19 (cols m ρ c))

/-- The gather buffer once filled, the same on every device: slot `s` holds device `s`'s candidates. -/
def gath : (cc0_scratch1 : Ref sig .tc).ty.Contents (Elt F) :=
  fun i => candV m ρ (i 0) (ix2 (i 1) (i 2))

/-- Slot `s` of the filled gather buffer, as loaded. -/
def slotV (s : Fin 8) : Vec F S1x256x8 .f32 := gM.view.readAt (Elt F) (slotR s).toLoadRect (gath m ρ)

/-- The kernel's result, the same on every device. -/
def outV : Vec F S256x8 .f32 :=
  k0_pay26
    (k0_pay22 (slotV m ρ 0) (slotV m ρ 1) (slotV m ρ 2) (slotV m ρ 3) (slotV m ρ 4) (slotV m ρ 5) (slotV m ρ 6) (slotV m ρ 7))
    (k0_pay23 (slotV m ρ 0) (slotV m ρ 1) (slotV m ρ 2) (slotV m ρ 3) (slotV m ρ 4) (slotV m ρ 5) (slotV m ρ 6) (slotV m ρ 7))
    (k0_pay24 (slotV m ρ 0) (slotV m ρ 1) (slotV m ρ 2) (slotV m ρ 3) (slotV m ρ 4) (slotV m ρ 5) (slotV m ρ 6) (slotV m ρ 7))
    (k0_pay25 (slotV m ρ 0) (slotV m ρ 1) (slotV m ρ 2) (slotV m ρ 3) (slotV m ρ 4) (slotV m ρ 5) (slotV m ρ 6) (slotV m ρ 7))

/-! ## Assertions on the buffers -/

/-- Slot `s` of device `d`'s gather buffer, at contents `f`. -/
def slotPts (d s : Dev nD) (f : Buf (Elt F) ((slotM s).view.loc (d : Thread nD τ))) : sProp 𝕄 :=
  (slotM s).view.loc (d : Thread nD τ) ↦[(slotM s).view.set]{fullShare} f

/-- The share of `cand` that device `c` lends to its copy towards `t` (for `t = c`: that it keeps). -/
abbrev shareOf (t : Dev nD) : PosShare TreeShare := Transfers.dealOf fullShare Finset.univ t

/-- Share `t` of device `c`'s `cand`, holding its candidates. -/
def candPts (c t : Dev nD) : sProp 𝕄 :=
  cM.view.loc (c : Thread nD τ) ↦[cM.view.set]{shareOf t} candV m ρ c

instance slotPts_storable (d s : Dev nD) (f) : BI.Storable (upEmb : UEmb _ 𝕄) (slotPts (F := F) d s f) := by unfold slotPts; infer_instance
instance candPts_storable (c t : Dev nD) : BI.Storable (upEmb : UEmb _ 𝕄) (candPts (F := F) m ρ c t) := by unfold candPts; infer_instance

/-- Every index of the gather buffer lies in the slot of its first coordinate, and in no other. -/
theorem mem_slot {s : Fin 8} {i : S8x256x8.Idx} : i ∈ (slotM s).view.set ↔ (i 0).val = s.val := by
  rw [show (slotM s).view.set = (slotR s).set from (View.set_reshape _ _).trans (View.set_slice_whole _ _), Rect.mem_set_unit]
  constructor
  · intro h
    have h0 := h 0
    have h1 : s.val ≤ (i 0).val := h0.1
    have h2 : (i 0).val < s.val + 1 := h0.2
    omega
  · intro h a
    fin_cases a
    · exact ⟨le_of_eq h.symm, by show (i 0).val < s.val + 1; omega⟩
    · exact ⟨Nat.zero_le _, by show (i 1).val < 0 + 256; have := (i 1).isLt; simpa using this⟩
    · exact ⟨Nat.zero_le _, by show (i 2).val < 0 + 8; have := (i 2).isLt; simpa using this⟩

/-! ## The schedule -/

/-- The devices that pay into the cell named `k` of device `c`. -/
def dut (c : Dev nD) : Option CK → Finset (Dev nD)
  | some (.inl _) => Finset.univ.erase c
  | some (.inr (.inl t)) => if t = c then ∅ else {c}
  | some (.inr (.inr s)) => if s = c then ∅ else {s}
  | none => ∅

def amt : Option CK → ℕ
  | some (.inr _) => N
  | _ => 1

/-- What device `d`'s payment into the cell named `k` of device `c` hands over. -/
def pay (c d : Dev nD) : Option CK → sProp 𝕄
  | some (.inl _) => iprop(∃ f, slotPts d c f)
  | some (.inr (.inl t)) => candPts m ρ c t
  | some (.inr (.inr s)) => slotPts c s (gath m ρ)
  | none => iprop(emp)

/-- One round: each cell's duties are due at round 0. -/
def sched : Rounds.Schedule (GSem nD τ sig) (Dev nD) 𝕄 where
  duties g r := if r = 0 ∧ g.1.2 = .tc then dut g.1.1 (cls g.2) else ∅
  unitless _ := False
  amount g _ _ := amt (cls g.2)
  payload g _ d := pay m ρ g.1.1 d (cls g.2)
  amount_pos g _ _ _ := by
    rcases cls g.2 with _ | (_ | _)
    · exact Nat.one_pos
    · exact Nat.one_pos
    · exact N_pos

instance pay_storable (c d : Dev nD) (k : Option CK) : BI.Storable (upEmb : UEmb _ 𝕄) (pay (F := F) m ρ c d k) := by
  rcases k with _ | (_ | (_ | _)) <;> (unfold pay; infer_instance)

instance sched_payload_storable (g : GSem nD τ sig) (r : ℕ) (d : Dev nD) :
    BI.Storable (upEmb : UEmb _ 𝕄) ((sched (F := F) m ρ).payload g r d) := pay_storable m ρ g.1.1 d (cls g.2)

section Sched
variable (c d : Dev nD)

theorem duties_cell (k : CK) : (sched (F := F) m ρ).duties (kcell (c, k)) 0 = dut c (some k) := by
  dsimp only [sched]; rw [if_pos ⟨rfl, rfl⟩, cls_csem]
theorem duties_bar : (sched (F := F) m ρ).duties (barCell c) 0 = Finset.univ.erase c := duties_cell m ρ c (.inl ())
theorem duties_snd (t : Dev nD) (h : t ≠ c) : (sched (F := F) m ρ).duties (sndCell c t) 0 = {c} :=
  (duties_cell m ρ c (.inr (.inl t))).trans (if_neg h)
theorem duties_rcv (s : Dev nD) (h : s ≠ c) : (sched (F := F) m ρ).duties (rcvCell c s) 0 = {s} :=
  (duties_cell m ρ c (.inr (.inr s))).trans (if_neg h)
theorem duties_later (g : GSem nD τ sig) : ∀ r, 1 ≤ r → (sched (F := F) m ρ).duties g r = ∅ :=
  fun r hr => by dsimp only [sched]; rw [if_neg fun h => by omega]
theorem duties_none (k : CK) (h : dut c (some k) = ∅) (r : ℕ) : (sched (F := F) m ρ).duties (kcell (c, k)) r = ∅ := by
  rcases Nat.eq_zero_or_pos r with rfl | hr
  · rw [duties_cell, h]
  · exact duties_later m ρ _ r hr
theorem duties_snd_self (r : ℕ) : (sched (F := F) m ρ).duties (sndCell c c) r = ∅ := duties_none m ρ c (.inr (.inl c)) (if_pos rfl) r
theorem duties_rcv_self (r : ℕ) : (sched (F := F) m ρ).duties (rcvCell c c) r = ∅ := duties_none m ρ c (.inr (.inr c)) (if_pos rfl) r

theorem amount_bar : (sched (F := F) m ρ).amount (barCell c) 0 d = 1 := by
  show amt (cls (csem (.inl ()))) = 1; rw [cls_csem]; rfl
theorem amount_snd (t : Dev nD) : (sched (F := F) m ρ).amount (sndCell c t) 0 d = N := by
  show amt (cls (csem (.inr (.inl t)))) = N; rw [cls_csem]; rfl
theorem amount_rcv (s : Dev nD) : (sched (F := F) m ρ).amount (rcvCell c s) 0 d = N := by
  show amt (cls (csem (.inr (.inr s)))) = N; rw [cls_csem]; rfl

theorem payload_bar : (sched (F := F) m ρ).payload (barCell c) 0 d = iprop(∃ f, slotPts d c f) := by
  show pay m ρ c d (cls (csem (.inl ()))) = _; rw [cls_csem]; rfl
theorem payload_snd (t : Dev nD) : (sched (F := F) m ρ).payload (sndCell c t) 0 d = candPts m ρ c t := by
  show pay m ρ c d (cls (csem (.inr (.inl t)))) = _; rw [cls_csem]; rfl
theorem payload_rcv (s : Dev nD) : (sched (F := F) m ρ).payload (rcvCell c s) 0 d = slotPts c s (gath m ρ) := by
  show pay m ρ c d (cls (csem (.inr (.inr s)))) = _; rw [cls_csem]; rfl

theorem expect_bar : (sched (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ, smul_eq_mul, Nat.mul_one]
  rfl
theorem expect_snd (t : Dev nD) (h : t ≠ c) : (sched (F := F) m ρ).expect (sndCell c t) 0 = N := by
  unfold Schedule.expect Schedule.amountOf; rw [duties_snd m ρ c t h, Finset.sum_singleton, amount_snd]
theorem expect_rcv (s : Dev nD) (h : s ≠ c) : (sched (F := F) m ρ).expect (rcvCell c s) 0 = N := by
  unfold Schedule.expect Schedule.amountOf; rw [duties_rcv m ρ c s h, Finset.sum_singleton, amount_rcv]

/-- What each wait brings: the seven other devices' slots for `c`; the share of `cand`; the filled slot. -/
theorem rest_bar : bigSep ((sched (F := F) m ρ).duties (barCell c) 0 \ ∅) (fun d => (sched (F := F) m ρ).payload (barCell c) 0 d)
    = bigSep (Finset.univ.erase c) fun d => iprop(∃ f, slotPts d c f) := by
  rw [Finset.sdiff_empty, duties_bar]; exact bigSep_congr fun d _ => payload_bar m ρ c d
theorem rest_snd (t : Dev nD) (h : t ≠ c) : bigSep ((sched (F := F) m ρ).duties (sndCell c t) 0 \ ∅) (fun d => (sched (F := F) m ρ).payload (sndCell c t) 0 d)
    = candPts m ρ c t := by
  rw [Finset.sdiff_empty, duties_snd m ρ c t h, bigSep_singleton, payload_snd]
theorem rest_rcv (s : Dev nD) (h : s ≠ c) : bigSep ((sched (F := F) m ρ).duties (rcvCell c s) 0 \ ∅) (fun d => (sched (F := F) m ρ).payload (rcvCell c s) 0 d)
    = slotPts c s (gath m ρ) := by
  rw [Finset.sdiff_empty, duties_rcv m ρ c s h, bigSep_singleton, payload_rcv]

end Sched

/-! ## What a device owes at launch, and the levels -/

/-- The units owed to the barriers of the devices of `A`. -/
def oweBar (A : Finset (Dev nD)) : CellTallies nD τ sig Unit := ∑ t ∈ A, tallyAt (barCell t) () 1
/-- The copies device `c` owes to the devices of `A`. -/
def oweRcv (c : Dev nD) (A : Finset (Dev nD)) : CellTallies nD τ sig Unit := ∑ t ∈ A, tallyAt (rcvCell t c) () N
def O₀ (c : Dev nD) : CellTallies nD τ sig Unit := oweRcv c (Finset.univ.erase c) + oweBar (Finset.univ.erase c)

theorem oweBar_erase {A : Finset (Dev nD)} {t : Dev nD} (h : t ∈ A) : oweBar A = oweBar (A.erase t) + tallyAt (barCell t) () 1 := by
  unfold oweBar; rw [← Finset.sum_erase_add A _ h]
theorem oweRcv_erase (c : Dev nD) {A : Finset (Dev nD)} {t : Dev nD} (h : t ∈ A) :
    oweRcv c A = oweRcv c (A.erase t) + tallyAt (rcvCell t c) () N := by
  unfold oweRcv; rw [← Finset.sum_erase_add A _ h]

def L (g : GSem nD τ sig) : Finset Unit := if g.1.2 = .tc then {()} else ∅
/-- Barrier cells at 1, receive cells at 2, everything else at 0. -/
def lv (g : GSem nD τ sig) (_ : Unit) : ℕ := match cls g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell (c, k)) u = match k with
  | .inl _ => 1 | .inr (.inr _) => 2 | _ => 0 := by
  unfold lv; rw [cls_csem]; rcases k with _ | (_ | _) <;> rfl

theorem sum_tally_pos {A : Finset (Dev nD)} {f : Dev nD → GSem nD τ sig} {n : ℕ} {g : GSem nD τ sig} {u : Unit}
    (h : 0 < (∑ t ∈ A, tallyAt (f t) () n : CellTallies nD τ sig Unit) g u) : ∃ t ∈ A, g = f t := by
  rw [Finset.sum_apply, Finsupp.finset_sum_apply] at h
  obtain ⟨t, ht, hne⟩ := Finset.exists_ne_zero_of_sum_ne_zero (Nat.pos_iff_ne_zero.mp h)
  refine ⟨t, ht, ?_⟩
  by_contra hg
  exact hne (by rw [tallyAt_apply, if_neg fun h' => hg h'.1])

theorem oweBar_pos {A : Finset (Dev nD)} {g : GSem nD τ sig} {u : Unit} (h : 0 < oweBar A g u) : ∃ t ∈ A, g = barCell t :=
  sum_tally_pos h
theorem oweRcv_pos {c : Dev nD} {A : Finset (Dev nD)} {g : GSem nD τ sig} {u : Unit} (h : 0 < oweRcv c A g u) :
    ∃ t ∈ A, g = rcvCell t c := sum_tally_pos h

theorem O₀_pos {c : Dev nD} {g : GSem nD τ sig} {u : Unit} (h : 0 < O₀ c g u) :
    (∃ t, g = barCell t) ∨ (∃ t, g = rcvCell t c) := by
  unfold O₀ at h
  rw [Pi.add_apply, Finsupp.add_apply] at h
  rcases Nat.eq_zero_or_pos (oweRcv c (Finset.univ.erase c) g u) with h0 | h0
  · rw [h0, Nat.zero_add] at h
    obtain ⟨t, -, ht⟩ := oweBar_pos h
    exact .inl ⟨t, ht⟩
  · obtain ⟨t, -, ht⟩ := oweRcv_pos h0
    exact .inr ⟨t, ht⟩

omit [FloatOps F] in
/-- A wait on a semaphore of level 0 (the staging copies) is allowed, whatever of the launch's debt is still owed. -/
theorem mayWait_stage (c : Dev nD) (sm : SemLoc sig) (hq : ∀ u, lv ((c : Thread nD τ), sm) u = 0) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨t, rfl⟩ <;> exact Finset.mem_singleton_self _)
      (fun p hp => by rw [Finset.mem_singleton.mp hp, hq])
      (fun g u hg => by
        rcases O₀_pos hg with ⟨t, rfl⟩ | ⟨t, rfl⟩
        · rw [lv_cell t (.inl ())]; decide
        · rw [lv_cell t (.inr (.inr c))]; exact Nat.zero_lt_two)
  · rw [MayWait_zero]; iintro -; iempintro

omit [FloatOps F] in
/-- At its barrier wait a device owes copies only, whose cells lie above every barrier cell. -/
theorem mayWait_bar (c : Dev nD) (A : Finset (Dev nD)) :
    (levAts L lv : sProp 𝕄) ⊢ MayWait (c : Thread nD τ) (.reg barS) () (oweRcv c A) :=
  MayOwe.of_cut (L := L) (lev := lv) 1 (fun p hp => by rw [Finset.mem_singleton.mp hp, L_tc]; exact Finset.mem_singleton_self _)
    (fun g u hg => by obtain ⟨t, -, rfl⟩ := oweRcv_pos hg; exact Finset.mem_singleton_self _)
    (fun p hp => by rw [Finset.mem_singleton.mp hp, lv_cell c (.inl ())])
    (fun g u hg => by obtain ⟨t, -, rfl⟩ := oweRcv_pos hg; rw [lv_cell t (.inr (.inr c))]; exact Nat.one_lt_two)

/-! ## Filling a slot -/

theorem slot_emb (s : Fin 8) (x : S256x8.Idx) : (slotM s).view.emb x = (ix3 s (x 0) (x 1) : S8x256x8.Idx) := by
  have hx : Shape.reshapeEquiv (Shape.Squeezes.numel_eq squeezes_S1x256x8_S256x8) x = (ix3 (⟨0, Nat.one_pos⟩ : Fin 1) (x 0) (x 1) : S1x256x8.Idx) := by
    have h2 : x = (ix2 (x 0) (x 1) : S256x8.Idx) := by funext a; fin_cases a <;> rfl
    conv_lhs => rw [h2]
    exact ValueIdx.reshapeEquiv_ix2_1ab _ _ _
  show (slotR s).emb (Shape.reshapeEquiv _ x) = _
  rw [hx]
  funext a
  fin_cases a
  · exact Fin.ext (by show s.val + 1 * 0 = s.val; omega)
  · exact Fin.ext (by show 0 + 1 * (x 0).val = (x 0).val; omega)
  · exact Fin.ext (by show 0 + 1 * (x 1).val = (x 1).val; omega)

/-- The gather buffer read through slot `s` is `s`'s candidates. -/
theorem read_slot (s : Fin 8) : (slotM s).view.read (Elt F) (gath m ρ) = candV m ρ s := by
  funext x
  rw [View.read_apply]
  show gath m ρ ((slotM s).view.emb x) = _
  rw [slot_emb]
  show candV m ρ s (ix2 (x 0) (x 1)) = _
  congr 1
  funext a; fin_cases a <;> rfl

/-- A copy of `s`'s candidates into slot `s` leaves the filled buffer's contents there. -/
theorem landed (s : Fin 8) (f : (cc0_scratch1 : Ref sig .tc).ty.Contents (Elt F)) (i) (hi : i ∈ (slotM s).view.set) :
    (slotM s).view.write (Elt F) f (cM.view.read (Elt F) (candV m ρ s)) Finset.univ i = gath m ρ i := by
  obtain ⟨x, -, rfl⟩ := Finset.mem_map.mp hi
  rw [View.write_emb_of_mem _ _ (Finset.mem_univ x)]
  exact (congrFun (read_slot m ρ s) x).symm

/-- A store of `s`'s candidates into slot `s` leaves the filled buffer's contents there too. -/
theorem stored (s : Fin 8) (f : (cc0_scratch1 : Ref sig .tc).ty.Contents (Elt F)) (i) (hi : i ∈ (slotM s).view.set) :
    (gM.access (slotR s)).write (Elt F) f (k0_pay1 (candV m ρ s)) Finset.univ i = gath m ρ i := by
  obtain ⟨x, -, rfl⟩ := Finset.mem_map.mp hi
  have he : (slotM s).view.emb x = (gM.access (slotR s)).emb (ix3 (⟨0, Nat.one_pos⟩ : Fin 1) (x 0) (x 1) : S1x256x8.Idx) := by
    rw [slot_emb]
    funext a
    fin_cases a
    · exact Fin.ext (by show s.val = s.val + 1 * 0; omega)
    · exact Fin.ext (by show (x 0).val = 0 + 1 * (x 0).val; omega)
    · exact Fin.ext (by show (x 1).val = 0 + 1 * (x 1).val; omega)
  rw [he, View.write_emb_of_mem _ _ (Finset.mem_univ _), ← he, slot_emb]
  show shapeCast S1x256x8 (candV m ρ s) _ _ = candV m ρ s (ix2 (x 0) (x 1))
  exact shapeCast_apply _ _ _ _ (by
    rw [Shape.rowMajor_val_two, Shape.rowMajor_val_three]
    show (x 0).val * 8 + (x 1).val = (0 * 256 + (x 0).val) * 8 + (x 1).val
    omega)

theorem access_set (s : Fin 8) : (gM.access (slotR s)).set = (slotM s).view.set := (View.set_reshape _ _).symm

theorem slot_disjoint : ∀ s s' : Dev nD, s ≠ s' → Disjoint (slotM s).view.set (slotM s').view.set := fun s s' h =>
  Finset.disjoint_left.mpr fun i hi hi' => h (Fin.ext ((mem_slot.mp hi).symm.trans (mem_slot.mp hi')))
abbrev slotSet (s : Dev nD) : Finset S8x256x8.Idx := (slotM s).view.set
theorem slot_cover : (Finset.univ : Finset (Dev nD)).biUnion slotSet = Finset.univ :=
  Finset.eq_univ_iff_forall.mpr fun i => Finset.mem_biUnion.mpr ⟨(i 0 : Fin 8), Finset.mem_univ _, mem_slot.mpr rfl⟩

/-- The whole gather buffer is its eight slots. -/
theorem gather_slots (d : Dev nD) (f : Buf (Elt F) ((d : Thread nD τ).loc cc0_scratch1)) :
    (((d : Thread nD τ).loc cc0_scratch1) ↦{fullShare} f : sProp 𝕄) = bigSep Finset.univ fun s : Dev nD => slotPts d s f := by
  rw [Ring.pointsTo_blocks slotSet slot_disjoint slot_cover f]
  rfl

/-- The whole of `cand` at the candidates is its eight shares. -/
theorem cand_shares (c : Dev nD) :
    (((c : Thread nD τ).loc cc0_scratch0) ↦{fullShare} candV m ρ c : sProp 𝕄) = bigSep Finset.univ fun t : Dev nD => candPts m ρ c t := by
  rw [Transfers.pointsTo_deal (Finset.univ : Finset (Dev nD)) ⟨c, Finset.mem_univ _⟩ fullShare]
  refine bigSep_congr fun t _ => ?_
  unfold candPts
  rw [View.set_whole]

end Cert.TopK
-- ==== Proof.Steps.lean ====
/-
# Steps of the exchange

One lemma per kind of effect of the body — a signal, a send, a wait on a receive or a send cell — each stated over a
prefix of a sequence, so that the body's eight signals, eight branches and sixteen waits are instances of them.
-/
module

public import proofs.«01_k».proof.Proof.Protocol

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, that every cell is at round 0, and the levels. -/
def records (K : Dev nD × CK → ℕ) : sProp 𝕄 :=
  iprop((bigSep Finset.univ fun ck : Dev nD × CK => cellInv ER (sched m ρ) (K ck) (kcell ck))
    ∗ (bigSep Finset.univ fun ck : Dev nD × CK => reached ER (kcell ck) 0) ∗ levAts L lv)

instance records_persistent (K : Dev nD × CK → ℕ) : BI.Persistent (records m ρ K) := by unfold records; infer_instance

variable (K : Dev nD × CK → ℕ)

theorem records_inv (c : Dev nD) (k : CK) : records m ρ K ⊢ cellInv ER (sched m ρ) (K (c, k)) (kcell (c, k)) := by
  unfold records
  iintro ⟨H, -, -⟩
  iapply (show (bigSep Finset.univ fun ck : Dev nD × CK => (cellInv ER (sched m ρ) (K ck) (kcell ck) : sProp 𝕄)) ⊢ _ from bigSep_elim (Finset.mem_univ (c, k))); iexact H
theorem records_reached (c : Dev nD) (k : CK) : records m ρ K ⊢ reached ER (kcell (c, k)) 0 := by
  unfold records
  iintro ⟨-, H, -⟩
  iapply (show (bigSep Finset.univ fun ck : Dev nD × CK => (reached ER (kcell ck) 0 : sProp 𝕄)) ⊢ _ from bigSep_elim (Finset.mem_univ (c, k))); iexact H
theorem records_lev : records m ρ K ⊢ levAts L lv := by
  unfold records
  iintro ⟨-, -, H⟩
  iexact H

theorem bigSep_take {I : Type} [DecidableEq I] {s : Finset I} {i : I} (hi : i ∈ s) {Φ : I → sProp 𝕄} :
    bigSep s Φ = iprop(Φ i ∗ bigSep (s.erase i) Φ) := bigSep_erase hi
theorem bigSep_put {I : Type} [DecidableEq I] {s : Finset I} {i : I} (hi : i ∉ s) {Φ : I → sProp 𝕄} :
    bigSep (insert i s) Φ = iprop(Φ i ∗ bigSep s Φ) := bigSep_insert hi

section Prog
variable {α β : Type}

theorem seq_step {c : Dev nD} {R : sProp 𝕄} {Q : β → sProp 𝕄} {p : Prog (TpuEff nD τ sig (Elt F) Λ₀ .tc) α} {k : α → Prog (TpuEff nD τ sig (Elt F) Λ₀ .tc) β}
    (h : R ⊢ wpc c p fun a => wpc c (k a) Q) : R ⊢ wpc c (p >>= k) Q :=
  h.trans (Entails.of_eq (wp_bind _ _ _ _ _ _).symm)

theorem ret_step {c : Dev nD} {R : sProp 𝕄} {Q : β → sProp 𝕄} {a : β} (h : R ⊢ Q a) : R ⊢ wpc c (pure a) Q := by
  show R ⊢ wpc c (.ret a) Q
  unfold wpc
  rw [wp_ret]
  iintro H; imodintro; iapply h; iexact H

theorem id_step {c : Dev nD} {R : sProp 𝕄} {Q : β → sProp 𝕄} {k : Dev nD → Prog (TpuEff nD τ sig (Elt F) Λ₀ .tc) β} (h : R ⊢ wpc c (k c) Q) :
    R ⊢ wpc c (Prog.lift .deviceId >>= k) Q := by
  unfold wpc at *
  simp only [Prog.lift, Prog.bind_op, Prog.bind_ret, wp_deviceId]
  exact h

end Prog

/-- A load of a window of a buffer held. -/
theorem load_step {c : Dev nD} {β : Type} {A B X : sProp 𝕄} {Q : β → sProp 𝕄} {cs : CoreSpace} {s : Shape} {e : EltTy} (mr : Memref sig .tc cs s e)
    {r : LoadRect s} {hl : mr.view.LoadsAt r} {S q} {f : Buf (Elt F) (mr.view.loc (c : Thread nD τ))}
    {k : Vec F r.shape e → Prog (TpuEff nD τ sig (Elt F) Λ₀ .tc) β} (hS : mr.view.setOn r.set ⊆ S)
    (h : iprop(A ∗ B ∗ (mr.view.loc (c : Thread nD τ) ↦[S]{q} f) ∗ X) ⊢ wpc c (k (mr.view.readAt (Elt F) r f)) Q) :
    iprop(A ∗ B ∗ (mr.view.loc (c : Thread nD τ) ↦[S]{q} f) ∗ X) ⊢ wpc c (Prog.lift (.load mr r hl) >>= k) Q := by
  simp only [Prog.lift, Prog.bind_op, Prog.bind_ret]
  iintro ⟨HA, HB, Hp, HX⟩
  iapply (wp_load 𝒱₀ (c : Thread nD τ) none Set.univ (m := mr) hS) $$ Hp; iintro Hp
  iapply h
  isplitl [HA]; · iexact HA
  isplitl [HB]; · iexact HB
  isplitl [Hp]; · iexact Hp
  iexact HX

/-! ## Signals -/

/-- The devices other than `c` from number `n` on. -/
def todo (c : Dev nD) (n : ℕ) : Finset (Dev nD) := Finset.univ.filter fun t => n ≤ t.val ∧ t ≠ c

theorem mem_todo {c t : Dev nD} {n : ℕ} : t ∈ todo c n ↔ n ≤ t.val ∧ t ≠ c := by simp [todo]
theorem todo_zero (c : Dev nD) : todo c 0 = Finset.univ.erase c := by ext t; simp [todo]
theorem todo_last (c : Dev nD) : todo c 8 = ∅ := by
  ext t; rw [mem_todo]; have h : t.val < 8 := t.isLt; constructor
  · intro h'; omega
  · intro h'; simp at h'
theorem todo_self (c : Dev nD) : todo c c.val = todo c (c.val + 1) := by
  ext t; rw [mem_todo, mem_todo]; constructor
  · rintro ⟨h1, h2⟩; exact ⟨by have : t.val ≠ c.val := fun h => h2 (Fin.ext h); omega, h2⟩
  · rintro ⟨h1, h2⟩; exact ⟨by omega, h2⟩
theorem todo_erase (c t : Dev nD) : (todo c t.val).erase t = todo c (t.val + 1) := by
  ext u; rw [Finset.mem_erase, mem_todo, mem_todo]; constructor
  · rintro ⟨h0, h1, h2⟩; exact ⟨by have : u.val ≠ t.val := fun h => h0 (Fin.ext h); omega, h2⟩
  · rintro ⟨h1, h2⟩; exact ⟨fun h => by rw [h] at h1; omega, by omega, h2⟩

/-- Device `c` before the signals to the devices of `A`: what it owes, their duty tokens, and its slots for them. -/
def Sig (c : Dev nD) (A : Finset (Dev nD)) : sProp 𝕄 :=
  iprop((∃ W, owes (c : Thread nD τ) (oweRcv c (Finset.univ.erase c) + oweBar A) W)
    ∗ bigSep A fun t => iprop(dutyTok ER (barCell t) 0 c ∗ ∃ f, slotPts c t f))

set_option maxHeartbeats 400000 in
/-- The conditional signal to `t`: done unless `t` is the device itself. -/
theorem sig_step (c t : Dev nD) (n n' : ℕ) (hn : t.val = n) (hn' : t.val + 1 = n') {α : Type} {Q : α → sProp 𝕄} {X : sProp 𝕄} {P : Prop} [Decidable P] {dev : P → Dev nD}
    {p : Prog (TpuEff nD τ sig (Elt F) Λ₀ .tc) α} (hP : P ↔ c ≠ t) (hdev : ∀ h, dev h = t)
    (h : iprop(records m ρ K ∗ Sig c (todo c n') ∗ X) ⊢ wpc c p Q) :
    iprop(records m ρ K ∗ Sig c (todo c n) ∗ X)
      ⊢ wpc c (if h : P then (semSignalWord (dev h) barS 1#32 >>= fun _ => p) else p) Q := by
  subst hn hn'
  by_cases hp : P
  · rw [dif_pos hp, hdev hp]
    have hct : t ≠ c := fun e => (hP.mp hp) e.symm
    have hm : t ∈ todo c t.val := mem_todo.mpr ⟨le_refl _, hct⟩
    refine BIBase.Entails.trans ?_ (show (wpc c (.op (.semSignal (t : Thread nD τ) barS ((1 : ℕ) : ℤ)) fun _ => p) Q : sProp 𝕄) ⊢ _ from Entails.of_eq rfl)
    unfold Sig
    rw [bigSep_take hm, oweBar_erase hm, todo_erase, ← add_assoc]
    iintro ⟨#HR, ⟨⟨%W, HO⟩, ⟨Ht, Hs⟩, Hrest⟩, HX⟩
    iapply (Rounds.wp_signal 𝒱₀ ER (sched m ρ) (c : Thread nD τ) none (dst := (t : Thread nD τ)) (sem := barS) (κ := K (t, .inl ())) (r := 0)
      (d := c) (k' := 1) (by rw [duties_bar]; exact Finset.mem_erase.mpr ⟨hct.symm, Finset.mem_univ _⟩) (amount_bar m ρ t c) ()
      (oweRcv c (Finset.univ.erase c) + oweBar (todo c (t.val + 1))) rfl (W := W)) $$ [HO Ht Hs]
    · isplitr; · iapply (records_inv m ρ K t (.inl ())); iexact HR
      isplitl [HO]; · iexact HO
      isplitl [Ht]; · iexact Ht
      isplitl [Hs]; · rw [payload_bar]; iexact Hs
      iapply (records_reached m ρ K t (.inl ())); iexact HR
    iintro HO
    iapply h
    isplitr; · iexact HR
    isplitl [HO Hrest]
    · unfold Sig
      isplitl [HO]; · iexists W; iexact HO
      iexact Hrest
    iexact HX
  · rw [dif_neg hp]
    have hct : c = t := not_not.mp fun e => hp (hP.mpr e)
    subst hct
    rw [todo_self]; exact h

/-! ## The branch of a device: its own slot stored, its candidates sent -/

/-- Before the branch: the copies owed, `cand` holding the candidates, the own slot, and for every other device the
    duties of the copy towards it and its slot. -/
def Unsent (c : Dev nD) : sProp 𝕄 :=
  iprop((∃ W, owes (c : Thread nD τ) (oweRcv c (Finset.univ.erase c)) W)
    ∗ (((c : Thread nD τ).loc cc0_scratch0) ↦{fullShare} candV m ρ c)
    ∗ (∃ f, slotPts c c f)
    ∗ bigSep (Finset.univ.erase c) fun t => iprop((dutyTok ER (sndCell c t) 0 c ∗ dutyTok ER (rcvCell t c) 0 c) ∗ ∃ f, slotPts t c f))

/-- After the branch: nothing owed, the kept share of `cand`, the own slot filled, the credit of each copy. -/
def Sent (c : Dev nD) : sProp 𝕄 :=
  iprop((∃ W, owes (c : Thread nD τ) 0 W) ∗ candPts m ρ c c ∗ slotPts c c (gath m ρ)
    ∗ bigSep (Finset.univ.erase c) fun t => cred (tallyAt (sndCell c t) () N))

/-- The copy of branch `s` to device `d`, signalling send semaphore `t`. -/
abbrev sendOp (s d : Dev nD) (t : Fin 8) : TpuEff nD τ sig (Elt F) Λ₀ .tc PUnit :=
  .enqueueDma cM (.remote (Dev.tc d) (slotM s) (.dma (sS t))) (.dma (rS s)) (Memref.isWhole_whole _).wordExact
    ((View.wordExact_bits rfl).reshape _ _) ⟨⟨rfl, Or.inl rfl⟩, trivial⟩

/-- The copies of branch `s` towards the devices of a list, then `p`. -/
def sendsThen {α : Type} (s : Dev nD) : List (Dev nD × Fin 8) → Prog (TpuEff nD τ sig (Elt F) Λ₀ .tc) α → Prog (TpuEff nD τ sig (Elt F) Λ₀ .tc) α
  | [], p => p
  | t :: l, p => Prog.lift (sendOp s t.1 t.2) >>= fun _ => sendsThen s l p

/-- Branch `s`: `cand` loaded and stored into slot `s`, the copies towards the devices of a list, then `p`. -/
def branchProg {α : Type} (s : Dev nD) (l : List (Dev nD × Fin 8)) (p : Prog (TpuEff nD τ sig (Elt F) Λ₀ .tc) α) :
    Prog (TpuEff nD τ sig (Elt F) Λ₀ .tc) α :=
  Prog.lift (.load cM (Rect.unit (s := S256x8) ![0, 0] S256x8.size inb_S256x8_S256x8_0_0).toLoadRect (View.loadsAt_vmem h_S256x8)) >>= fun v =>
  Prog.lift (.load gM (slotR s).toLoadRect (View.loadsAt_vmem h_S1x256x8)) >>= fun _ =>
  Prog.lift (.store gM (slotR s) (k0_pay1 v) Finset.univ (View.stores_vmem_bits_univ h_S1x256x8 rfl) (.inl rfl)) >>= fun _ =>
  sendsThen s l p

theorem hz2 : (![0, 0] : Fin 2 → Nat) = fun _ => 0 := funext fun a => by fin_cases a <;> rfl
omit [FloatOps F] in
theorem read_cand (f : (cc0_scratch0 : Ref sig .tc).ty.Contents (Elt F)) :
    cM.view.readAt (Elt F) (Rect.unit (s := S256x8) ![0, 0] S256x8.size inb_S256x8_S256x8_0_0).toLoadRect f = f :=
  Memref.readAt_unit_zero (Elt F) cc0_scratch0 hz2 _ f
omit [FloatOps F] in
theorem write_cand (f w : (cc0_scratch0 : Ref sig .tc).ty.Contents (Elt F)) :
    (cM.access (Rect.unit (s := S256x8) ![0, 0] S256x8.size inb_S256x8_S256x8_0_0) : View sig .tc _ _ _).write (Elt F) f w Finset.univ = w :=
  Memref.write_access_unit_zero_univ (Elt F) cc0_scratch0 hz2 _ f w
omit [FloatOps F] in
theorem write_out (f w : (cc0_stg1_0 : Ref sig .tc).ty.Contents (Elt F)) :
    (oM.access (Rect.unit (s := S256x8) ![0, 0] S256x8.size inb_S256x8_S256x8_0_0) : View sig .tc _ _ _).write (Elt F) f w Finset.univ = w :=
  Memref.write_access_unit_zero_univ (Elt F) cc0_stg1_0 hz2 _ f w

/-- A store of the whole of `cand`. -/
theorem store_cand {c : Dev nD} {β : Type} {A B X : sProp 𝕄} {Q : β → sProp 𝕄} {w : Vec F S256x8 .f32} {hx hm}
    {f : Buf (Elt F) ((c : Thread nD τ).loc cc0_scratch0)} {k : PUnit → Prog (TpuEff nD τ sig (Elt F) Λ₀ .tc) β}
    (h : iprop(A ∗ B ∗ (((c : Thread nD τ).loc cc0_scratch0) ↦{fullShare} (w : Buf (Elt F) ((c : Thread nD τ).loc cc0_scratch0))) ∗ X) ⊢ wpc c (k ⟨⟩) Q) :
    iprop(A ∗ B ∗ (((c : Thread nD τ).loc cc0_scratch0) ↦{fullShare} f) ∗ X)
      ⊢ wpc c (Prog.lift (.store cM (Rect.unit (s := S256x8) ![0, 0] S256x8.size inb_S256x8_S256x8_0_0) w Finset.univ hx hm) >>= k) Q := by
  simp only [Prog.lift, Prog.bind_op, Prog.bind_ret]
  iintro ⟨HA, HB, Hp, HX⟩
  iapply (wp_store 𝒱₀ (c : Thread nD τ) none Set.univ (m := cM) (r := Rect.unit (s := S256x8) ![0, 0] S256x8.size inb_S256x8_S256x8_0_0) (w := w) (Mk := Finset.univ) (S := Finset.univ) (f := f) (Finset.subset_univ _)) $$ Hp; iintro Hp
  rw [write_cand]
  iapply h
  isplitl [HA]; · iexact HA
  isplitl [HB]; · iexact HB
  isplitl [Hp]; · iexact Hp
  iexact HX

/-- A store of the whole result. -/
theorem store_out {c : Dev nD} {β : Type} {A B X : sProp 𝕄} {Q : β → sProp 𝕄} {w : Vec F S256x8 .f32} {hx hm}
    {f : Buf (Elt F) ((c : Thread nD τ).loc cc0_stg1_0)} {k : PUnit → Prog (TpuEff nD τ sig (Elt F) Λ₀ .tc) β}
    (h : iprop(A ∗ B ∗ (((c : Thread nD τ).loc cc0_stg1_0) ↦{fullShare} (w : Buf (Elt F) ((c : Thread nD τ).loc cc0_stg1_0))) ∗ X) ⊢ wpc c (k ⟨⟩) Q) :
    iprop(A ∗ B ∗ (((c : Thread nD τ).loc cc0_stg1_0) ↦{fullShare} f) ∗ X)
      ⊢ wpc c (Prog.lift (.store oM (Rect.unit (s := S256x8) ![0, 0] S256x8.size inb_S256x8_S256x8_0_0) w Finset.univ hx hm) >>= k) Q := by
  simp only [Prog.lift, Prog.bind_op, Prog.bind_ret]
  iintro ⟨HA, HB, Hp, HX⟩
  iapply (wp_store 𝒱₀ (c : Thread nD τ) none Set.univ (m := oM) (r := Rect.unit (s := S256x8) ![0, 0] S256x8.size inb_S256x8_S256x8_0_0) (w := w) (Mk := Finset.univ) (S := Finset.univ) (f := f) (Finset.subset_univ _)) $$ Hp; iintro Hp
  rw [write_out]
  iapply h
  isplitl [HA]; · iexact HA
  isplitl [HB]; · iexact HB
  isplitl [Hp]; · iexact Hp
  iexact HX

set_option maxHeartbeats 400000 in
/-- One copy: its duties, the lent share of `cand` and the target's slot, for the copy's credit. -/
theorem send_step (c t : Dev nD) (htc : t ≠ c) {A : Finset (Dev nD)} (ht : t ∈ A) {α : Type} {Q : α → sProp 𝕄} {X : sProp 𝕄}
    {p : Prog (TpuEff nD τ sig (Elt F) Λ₀ .tc) α}
    (h : iprop(records m ρ K ∗ (∃ W, owes (c : Thread nD τ) (oweRcv c (A.erase t)) W) ∗ cred (tallyAt (sndCell c t) () N) ∗ X) ⊢ wpc c p Q) :
    iprop(records m ρ K ∗ (∃ W, owes (c : Thread nD τ) (oweRcv c A) W)
        ∗ (candPts m ρ c t ∗ (dutyTok ER (sndCell c t) 0 c ∗ dutyTok ER (rcvCell t c) 0 c) ∗ ∃ f, slotPts t c f) ∗ X)
      ⊢ wpc c (Prog.lift (sendOp c t t) >>= fun _ => p) Q := by
  refine BIBase.Entails.trans ?_ (show (wpc c (.op (sendOp c t t) fun _ => p) Q : sProp 𝕄) ⊢ _ from Entails.of_eq rfl)
  rw [oweRcv_erase c ht]
  iintro ⟨#HR, ⟨%W, HO⟩, ⟨Hc, ⟨Ht1, Ht2⟩, ⟨%fn, Hs⟩⟩, HX⟩
  iapply (Rounds.wp_send_pointsTo 𝒱₀ ER (sched m ρ) (c : Thread nD τ) none (κ₁ := K (c, .inr (.inl t))) (κ₂ := K (t, .inr (.inr c)))
    (r₁ := 0) (r₂ := 0) (d₁ := c) (d₂ := c) (fs := candV m ρ c) (q := shareOf t) (fd := fn)
    (by rw [duties_snd m ρ c t htc]; exact Finset.mem_singleton_self _) (by rw [duties_rcv m ρ t c htc.symm]; exact Finset.mem_singleton_self _)
    () () N rfl (amount_snd m ρ c c t) (amount_rcv m ρ t c c) (oweRcv c (A.erase t)) rfl (W := W)
    (by rw [payload_snd]; unfold candPts; exact BI.Entails.refl _)
    (by rw [payload_rcv]; unfold slotPts; exact Entails.of_eq (pointsTo_congr fun i hi => landed m ρ c fn i hi))) $$ [HO Hc Ht1 Ht2 Hs]
  · isplitr; · iapply (records_inv m ρ K c (.inr (.inl t))); iexact HR
    isplitr; · iapply (records_inv m ρ K t (.inr (.inr c))); iexact HR
    isplitl [Hc]; · unfold candPts; iexact Hc
    isplitl [Hs]; · unfold slotPts; iexact Hs
    isplitl [HO]; · iexact HO
    isplitl [Ht1]; · iexact Ht1
    isplitr; · iapply (records_reached m ρ K c (.inr (.inl t))); iexact HR
    isplitl [Ht2]; · iexact Ht2
    iapply (records_reached m ρ K t (.inr (.inr c))); iexact HR
  iintro ⟨Hcr, HO⟩
  iapply h
  isplitr; · iexact HR
  isplitl [HO]; · iexists W; iexact HO
  isplitl [Hcr]; · iexact Hcr
  iexact HX

/-- The copies of a list of distinct devices, one after another. -/
theorem sends_step (c : Dev nD) {α : Type} {Q : α → sProp 𝕄} {p : Prog (TpuEff nD τ sig (Elt F) Λ₀ .tc) α} :
    ∀ (l : List (Dev nD)) (hl : l.Nodup) (hc : c ∉ l) (X : sProp 𝕄)
      (h : iprop(records m ρ K ∗ (∃ W, owes (c : Thread nD τ) 0 W) ∗ (bigSep l.toFinset fun t => cred (tallyAt (sndCell c t) () N)) ∗ X) ⊢ wpc c p Q),
    iprop(records m ρ K ∗ (∃ W, owes (c : Thread nD τ) (oweRcv c l.toFinset) W)
        ∗ (bigSep l.toFinset fun t => iprop(candPts m ρ c t ∗ (dutyTok ER (sndCell c t) 0 c ∗ dutyTok ER (rcvCell t c) 0 c) ∗ ∃ f, slotPts t c f)) ∗ X)
      ⊢ wpc c (sendsThen c (l.map fun t => (t, t)) p) Q
  | [], _, _, X, h => by
    refine BIBase.Entails.trans ?_ h
    rw [show oweRcv c ([] : List (Dev nD)).toFinset = 0 from rfl]
    exact BI.Entails.refl _
  | t :: l, hl, hc, X, h => by
    have htl : t ∉ l.toFinset := fun h' => (List.nodup_cons.mp hl).1 (List.mem_toFinset.mp h')
    have htc : t ≠ c := fun e => hc (e ▸ List.mem_cons_self)
    rw [List.toFinset_cons, bigSep_put htl] at h
    rw [List.toFinset_cons, bigSep_put htl]
    have ih := sends_step c l (List.nodup_cons.mp hl).2 (fun h' => hc (List.mem_cons_of_mem _ h'))
      (iprop(cred (tallyAt (sndCell c t) () N) ∗ X)) (p := p) (Q := Q) (by
        refine BIBase.Entails.trans ?_ h
        iintro ⟨HR, HO, Hl, Ht, HX⟩
        isplitl [HR]; · iexact HR
        isplitl [HO]; · iexact HO
        isplitl [Hl Ht]
        · isplitl [Ht] <;> iassumption
        iexact HX)
    refine BIBase.Entails.trans ?_ (send_step m ρ K c t htc (A := insert t l.toFinset) (Finset.mem_insert_self _ _)
      (X := iprop((bigSep l.toFinset fun t => iprop(candPts m ρ c t ∗ (dutyTok ER (sndCell c t) 0 c ∗ dutyTok ER (rcvCell t c) 0 c) ∗ ∃ f, slotPts t c f)) ∗ X)) (by
        rw [Finset.erase_insert htl]
        refine BIBase.Entails.trans ?_ ih
        iintro ⟨HR, HO, Ht, Hl, HX⟩
        isplitl [HR]; · iexact HR
        isplitl [HO]; · iexact HO
        isplitl [Hl]; · iexact Hl
        isplitl [Ht] <;> iassumption))
    iintro ⟨HR, HO, ⟨Ht, Hl⟩, HX⟩
    isplitl [HR]; · iexact HR
    isplitl [HO]; · iexact HO
    isplitl [Ht]; · iexact Ht
    isplitl [Hl] <;> iassumption

/-- A list of targets whose device numbers are their semaphores' numbers. -/
theorem targets {l : List (Dev nD × Fin 8)} (h : l.map (fun p => p.1.val) = l.map (fun p => p.2.val)) :
    l = (l.map Prod.snd).map fun t => (t, t) := by
  induction l with
  | nil => rfl
  | cons p l ih =>
    simp only [List.map_cons, List.cons.injEq] at h ⊢
    exact ⟨Prod.ext (Fin.ext h.1) rfl, ih h.2⟩

/-- Before the wait on the barrier: the signals sent, the candidates stored. -/
def PreBar (c : Dev nD) : sProp 𝕄 :=
  iprop((∃ W, owes (c : Thread nD τ) (oweRcv c (Finset.univ.erase c)) W)
    ∗ (cred (tallyAt (barCell c) () 7) ∗ atPos ER (barCell c) 0 ∅ 0)
    ∗ (((c : Thread nD τ).loc cc0_scratch0) ↦{fullShare} candV m ρ c) ∗ (∃ f, slotPts c c f)
    ∗ bigSep (Finset.univ.erase c) fun t => iprop(dutyTok ER (sndCell c t) 0 c ∗ dutyTok ER (rcvCell t c) 0 c))

/-- The wait on the barrier: every other device's slot for `c` comes with it. -/
theorem bar_step {c : Dev nD} {α : Type} {Q : α → sProp 𝕄} {X : sProp 𝕄} {p : Prog (TpuEff nD τ sig (Elt F) Λ₀ .tc) α}
    (h : iprop(records m ρ K ∗ Unsent m ρ c ∗ semVal (barCell c) 0 ∗ X) ⊢ wpc c p Q) :
    iprop(records m ρ K ∗ PreBar m ρ c ∗ X) ⊢ wpc c (semWaitWord barS 7#32 >>= fun _ => p) Q := by
  refine BIBase.Entails.trans ?_ (show (wpc c (.op (.semWait barS ((7 : ℕ) : ℤ)) fun _ => p) Q : sProp 𝕄) ⊢ _ from Entails.of_eq rfl)
  unfold PreBar
  iintro ⟨#HR, ⟨⟨%W, HO⟩, ⟨Hcr, Hat⟩, Hc, Hs, Htk⟩, HX⟩
  iapply (Rounds.wp_wait_rest_token 𝒱₀ ER (sched m ρ) (c : Thread nD τ) none (κ := K (c, .inl ()))
    (wpE_semWait_eq 𝒱₀ (c : Thread nD τ) none Set.univ) (Set.mem_univ _) () (O := oweRcv c (Finset.univ.erase c)) (W := W) (R := 0) (m := 0) (T := ∅)
    (by rw [expect_bar])) $$ [Hcr HO Hat]
  · isplitr; · iapply (records_inv m ρ K c (.inl ())); iexact HR
    isplitl [Hcr]; · iexact Hcr
    isplitl [HO]; · iexact HO
    isplitr
    · iapply (mayWait_bar c); iapply (records_lev m ρ K); iexact HR
    iexact Hat
  iintro ⟨HO, Hat, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Hat] with Hz
  · isplitr; · iapply (records_inv m ρ K c (.inl ())); iexact HR
    iexact Hat
  iapply h
  isplitr; · iexact HR
  isplitr [Hz HX]
  · unfold Unsent
    rw [show (bigSep (Finset.univ.erase c) fun t => iprop((dutyTok ER (sndCell c t) 0 c ∗ dutyTok ER (rcvCell t c) 0 c) ∗ ∃ f, slotPts t c f) : sProp 𝕄)
      = iprop((bigSep (Finset.univ.erase c) fun t => iprop(dutyTok ER (sndCell c t) 0 c ∗ dutyTok ER (rcvCell t c) 0 c))
        ∗ bigSep (Finset.univ.erase c) fun t => iprop(∃ f, slotPts t c f)) from bigSep_sep' _ _ _]
    isplitl [HO]; · iexists _; iexact HO
    isplitl [Hc]; · iexact Hc
    isplitl [Hs]; · iexact Hs
    isplitl [Htk]; · iexact Htk
    iexact Hp
  isplitl [Hz]; · iexact Hz
  iexact HX

/-- Branch `s`, which device `s` alone takes. -/
def St (c : Dev nD) (n : ℕ) : sProp 𝕄 := if c.val < n then Sent m ρ c else Unsent m ρ c

set_option maxHeartbeats 400000 in
/-- The branch's program on its own device. -/
theorem branch_own (c : Dev nD) {α : Type} {Q : α → sProp 𝕄} {X : sProp 𝕄} {p : Prog (TpuEff nD τ sig (Elt F) Λ₀ .tc) α}
    (l : List (Dev nD)) (hl : l.Nodup) (hlc : l.toFinset = Finset.univ.erase c)
    (h : iprop(records m ρ K ∗ Sent m ρ c ∗ X) ⊢ wpc c p Q) :
    iprop(records m ρ K ∗ Unsent m ρ c ∗ X) ⊢ wpc c (branchProg c (l.map fun t => (t, t)) p) Q := by
  have hmem : c ∉ l := fun h' => by
    have := hlc ▸ List.mem_toFinset.mpr h'
    exact absurd rfl (Finset.mem_erase.mp this).1
  have hs := sends_step m ρ K c (Q := Q) (p := p) l hl hmem (iprop(candPts m ρ c c ∗ slotPts c c (gath m ρ) ∗ X)) (by
    refine BIBase.Entails.trans ?_ h
    rw [hlc]
    unfold Sent
    iintro ⟨HR, HO, Hcr, Hc, Hs, HX⟩
    isplitl [HR]; · iexact HR
    isplitr [HX]
    · isplitl [HO]; · iexact HO
      isplitl [Hc]; · iexact Hc
      isplitl [Hs]; · iexact Hs
      iexact Hcr
    iexact HX)
  rw [hlc, show (bigSep (Finset.univ.erase c) fun t => iprop(candPts m ρ c t ∗ (dutyTok ER (sndCell c t) 0 c ∗ dutyTok ER (rcvCell t c) 0 c) ∗ ∃ f, slotPts t c f) : sProp 𝕄)
    = iprop((bigSep (Finset.univ.erase c) fun t => candPts m ρ c t)
      ∗ bigSep (Finset.univ.erase c) fun t => iprop((dutyTok ER (sndCell c t) 0 c ∗ dutyTok ER (rcvCell t c) 0 c) ∗ ∃ f, slotPts t c f)) from bigSep_sep' _ _ _] at hs
  unfold branchProg Unsent
  iintro ⟨HR, ⟨HO, Hc, ⟨%f, Hs⟩, Htk⟩, HX⟩
  simp only [Prog.lift, Prog.bind_op, Prog.bind_ret]
  iapply (wp_load 𝒱₀ (c : Thread nD τ) none Set.univ (m := cM) (S := Finset.univ) (Finset.subset_univ _)) $$ Hc; iintro Hc
  rw [read_cand]
  unfold slotPts
  iapply (wp_load 𝒱₀ (c : Thread nD τ) none Set.univ (m := gM)
    (subset_of_eq ((gM.view.set_slice (slotR c)).symm.trans (access_set c)))) $$ Hs; iintro Hs
  iapply (wp_store 𝒱₀ (c : Thread nD τ) none Set.univ (m := gM) (r := slotR c) (Mk := Finset.univ) (subset_of_eq (access_set c))) $$ Hs; iintro Hs
  iapply hs
  isplitl [HR]; · iexact HR
  isplitl [HO]; · iexact HO
  ihave Hc' := (Entails.of_eq ((cand_shares m ρ c).trans (bigSep_take (Finset.mem_univ c)))) $$ Hc
  icases Hc' with ⟨Hcc, Hcr⟩
  isplitl [Hcr Htk]
  · isplitl [Hcr]; · iexact Hcr
    iexact Htk
  isplitl [Hcc]; · iexact Hcc
  isplitl [Hs]
  · unfold slotPts
    iapply (Entails.of_eq (pointsTo_congr fun i hi => stored m ρ c f i hi)); iexact Hs
  iexact HX

/-- A printed branch: nothing unless the device is `s`. -/
theorem branch_step (c s : Dev nD) (n n' : ℕ) (hn : s.val = n) (hn' : s.val + 1 = n') (l : List (Dev nD)) (hl : l.Nodup) (hls : l.toFinset = Finset.univ.erase s)
    {α : Type} {Q : α → sProp 𝕄} {X : sProp 𝕄} {P : Prop} [Decidable P] (l' : P → List (Dev nD × Fin 8))
    (hll : ∀ h, l' h = l.map fun t => (t, t))
    {B : P → Prog (TpuEff nD τ sig (Elt F) Λ₀ .tc) α} {p : Prog (TpuEff nD τ sig (Elt F) Λ₀ .tc) α}
    (hP : P ↔ c = s) (hB : ∀ h, B h = branchProg s (l' h) p)
    (h : iprop(records m ρ K ∗ St m ρ c n' ∗ X) ⊢ wpc c p Q) :
    iprop(records m ρ K ∗ St m ρ c n ∗ X) ⊢ wpc c (if h : P then B h else p) Q := by
  subst hn hn'
  by_cases hp : P
  · rw [dif_pos hp, hB hp, hll hp]
    have e := hP.mp hp; subst e
    rw [show St m ρ c c.val = Unsent m ρ c from if_neg (lt_irrefl _)]
    rw [show St m ρ c (c.val + 1) = Sent m ρ c from if_pos (Nat.lt_succ_self _)] at h
    exact branch_own m ρ K c l hl hls h
  · rw [dif_neg hp]
    have e : c.val ≠ s.val := fun e => hp (hP.mpr (Fin.ext e))
    have hst : St m ρ c s.val = St m ρ c (s.val + 1) := by
      unfold St
      by_cases hlt : c.val < s.val
      · rw [if_pos hlt, if_pos (by omega)]
      · rw [if_neg hlt, if_neg (by omega)]
    rw [hst]; exact h

/-! ## The waits on the receive and send cells -/

/-- One side of the copies: the receive cells with the filled slots, or the send cells with the shares of `cand`. -/
structure Side (c : Dev nD) where
  key : Dev nD → Fin 8 ⊕ Fin 8
  sem : Dev nD → DmaSem sig
  pay : Dev nD → sProp 𝕄
  hsem : ∀ s, csem (.inr (key s)) = .dma (sem s)
  hexp : ∀ s, s ≠ c → (sched m ρ).expect (kcell (c, .inr (key s))) 0 = N
  hrest : ∀ s, s ≠ c → (bigSep ((sched m ρ).duties (kcell (c, .inr (key s))) 0 \ ∅) fun d => (sched m ρ).payload (kcell (c, .inr (key s))) 0 d) = pay s
  hself : ∀ r, (sched m ρ).duties (kcell (c, .inr (key c))) r = ∅

def rcvSide (c : Dev nD) : Side m ρ c where
  key := .inr
  sem := rS
  pay s := slotPts c s (gath m ρ)
  hsem _ := rfl
  hexp s h := expect_rcv m ρ c s h
  hrest s h := rest_rcv m ρ c s h
  hself r := duties_rcv_self m ρ c r

def sndSide (c : Dev nD) : Side m ρ c where
  key := .inl
  sem := sS
  pay t := candPts m ρ c t
  hsem _ := rfl
  hexp t h := expect_snd m ρ c t h
  hrest t h := rest_snd m ρ c t h
  hself r := duties_snd_self m ρ c r

variable {m ρ} in
/-- The cell of a side for device `s`. -/
abbrev Side.cell {c : Dev nD} (S : Side m ρ c) (s : Dev nD) : GSem nD τ sig := kcell (c, .inr (S.key s))

/-- Before the wait for `s`: the cell's position and its credit (its payload already there, if `s` is the device itself). -/
def Before {c : Dev nD} (S : Side m ρ c) (s : Dev nD) : sProp 𝕄 :=
  iprop(atPos ER (S.cell s) 0 ∅ 0 ∗ if s = c then S.pay s else cred (tallyAt (S.cell s) () N))
/-- After it: the cell's counter at zero and the payload. -/
def After {c : Dev nD} (S : Side m ρ c) (s : Dev nD) : sProp 𝕄 := iprop(semVal (S.cell s) 0 ∗ S.pay s)

/-- The waits for the devices below `n` done, those from `n` on to come. -/
def Waits {c : Dev nD} (S : Side m ρ c) (n : ℕ) : sProp 𝕄 :=
  iprop((∃ W, owes (c : Thread nD τ) 0 W)
    ∗ (bigSep (Finset.univ.filter fun s : Dev nD => n ≤ s.val) (Before m ρ S)) ∗ bigSep (Finset.univ.filter fun s : Dev nD => s.val < n) (After m ρ S))

theorem from_split (s : Dev nD) : (Finset.univ.filter fun u : Dev nD => s.val ≤ u.val) = insert s (Finset.univ.filter fun u : Dev nD => s.val + 1 ≤ u.val) := by
  ext u; simp only [Finset.mem_filter, Finset.mem_univ, true_and, Finset.mem_insert, Fin.ext_iff]; omega
theorem below_split (s : Dev nD) : (Finset.univ.filter fun u : Dev nD => u.val < s.val + 1) = insert s (Finset.univ.filter fun u : Dev nD => u.val < s.val) := by
  ext u; simp only [Finset.mem_filter, Finset.mem_univ, true_and, Finset.mem_insert, Fin.ext_iff]; omega

set_option maxHeartbeats 400000 in
/-- A printed wait for `s`: skipped on `s` itself, whose cell has no round to come. -/
theorem wait_step {c : Dev nD} (S : Side m ρ c) (s : Dev nD) (n n' : ℕ) (hn : s.val = n) (hn' : s.val + 1 = n') {α : Type} {Q : α → sProp 𝕄} {X : sProp 𝕄} {P : Prop} [Decidable P]
    {p : Prog (TpuEff nD τ sig (Elt F) Λ₀ .tc) α} {sem : DmaSem sig} {sp₁ sp₂ : Space} {s₁ s₂ : Shape} {e₁ e₂ : EltTy}
    {src : Memref sig .tc sp₁ s₁ e₁} {dst : Memref sig .tc sp₂ s₂ e₂} {h₁ : src.view.WordExact} {h₂ : dst.view.WordExact}
    (hP : P ↔ c ≠ s) (hsem : sem = S.sem s) (hN : dst.view.dmaCredit = N)
    (h : iprop(records m ρ K ∗ Waits m ρ S n' ∗ X) ⊢ wpc c p Q) :
    iprop(records m ρ K ∗ Waits m ρ S n ∗ X)
      ⊢ wpc c (if h : P then (Prog.lift (.waitDma2 sem src dst h₁ h₂) >>= fun _ => p) else p) Q := by
  subst hn hn'
  have hin : s ∉ (Finset.univ.filter fun u : Dev nD => s.val + 1 ≤ u.val) := fun h' => by have := (Finset.mem_filter.mp h').2; omega
  have hout : s ∉ (Finset.univ.filter fun u : Dev nD => u.val < s.val) := fun h' => absurd (Finset.mem_filter.mp h').2 (lt_irrefl _)
  have hnext : iprop(records m ρ K ∗ ((∃ W, owes (c : Thread nD τ) 0 W) ∗ After m ρ S s
      ∗ (bigSep (Finset.univ.filter fun u : Dev nD => s.val + 1 ≤ u.val) (Before m ρ S)) ∗ bigSep (Finset.univ.filter fun u : Dev nD => u.val < s.val) (After m ρ S)) ∗ X) ⊢ wpc c p Q := by
    refine BIBase.Entails.trans ?_ h
    unfold Waits
    rw [below_split, bigSep_put hout]
    iintro ⟨HR, ⟨HO, Ha, H1, H2⟩, HX⟩
    isplitl [HR]; · iexact HR
    isplitr [HX]
    · isplitl [HO]; · iexact HO
      isplitl [H1]; · iexact H1
      isplitl [Ha] <;> iassumption
    iexact HX
  unfold Waits
  rw [from_split, bigSep_put hin]
  by_cases hp : P
  · rw [dif_pos hp]
    have hcs : s ≠ c := fun e => (hP.mp hp) e.symm
    have hcell : ((c : Thread nD τ), SemLoc.dma sem) = S.cell s := by rw [hsem, ← S.hsem s]
    simp only [Prog.lift, Prog.bind_op, Prog.bind_ret]
    unfold Before
    rw [if_neg hcs]
    iintro ⟨#HR, ⟨⟨%W, HO⟩, ⟨⟨Hat, Hcr⟩, H1⟩, H2⟩, HX⟩
    iapply (Rounds.wp_wait_rest_token 𝒱₀ ER (sched m ρ) (c : Thread nD τ) none (κ := K (c, .inr (S.key s)))
      (wpE_waitDma2_eq 𝒱₀ (c : Thread nD τ) none Set.univ) (Set.mem_univ _) () (O := 0) (W := W) (R := 0) (m := 0) (T := ∅)
      (by rw [hcell, hN, Nat.zero_add, S.hexp s hcs])) $$ [Hcr HO Hat]
    · rw [hcell, hN]
      isplitr; · iapply (records_inv m ρ K c (.inr (S.key s))); iexact HR
      isplitl [Hcr]; · iexact Hcr
      isplitl [HO]; · iexact HO
      isplitr; · rw [MayWait_zero]; iempintro
      iexact Hat
    rw [hcell]
    iintro ⟨HO, Hat, -, Hpay⟩
    ihave Hp := (Entails.of_eq (S.hrest s hcs)) $$ Hpay
    imod (Rounds.cell_close ER (sched m ρ) (Set.mem_univ (K (c, .inr (S.key s)))) (fun h => h) (R := 0 + 1) (duties_later m ρ (S.cell s))) $$ [Hat] with Hz
    · isplitr; · iapply (records_inv m ρ K c (.inr (S.key s))); iexact HR
      iexact Hat
    iapply hnext
    isplitr; · iexact HR
    isplitr [HX]
    · isplitl [HO]; · iexists _; iexact HO
      isplitl [Hz Hp]
      · unfold After
        isplitl [Hz]; · iexact Hz
        iexact Hp
      isplitl [H1]; · iexact H1
      iexact H2
    iexact HX
  · rw [dif_neg hp]
    have hcs : c = s := not_not.mp fun e => hp (hP.mpr e)
    subst hcs
    unfold Before
    rw [if_pos rfl]
    iintro ⟨#HR, ⟨HO, ⟨⟨Hat, Hp⟩, H1⟩, H2⟩, HX⟩
    imod (Rounds.cell_close ER (sched m ρ) (Set.mem_univ (K (c, .inr (S.key c)))) (fun h => h) (R := 0) (fun r _ => S.hself r)) $$ [Hat] with Hz
    · isplitr; · iapply (records_inv m ρ K c (.inr (S.key c))); iexact HR
      iexact Hat
    iapply hnext
    isplitr; · iexact HR
    isplitr [HX]
    · isplitl [HO]; · iexact HO
      isplitl [Hz Hp]
      · unfold After
        isplitl [Hz]; · iexact Hz
        iexact Hp
      isplitl [H1]; · iexact H1
      iexact H2
    iexact HX

end Cert.TopK
-- ==== Proof.Parts.lean ====
/-
# The body, part by part

The printed body is a sequence of parts; each is walked here with the step lemmas.
-/
module

public import proofs.«01_k».proof.Proof.Steps

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The words a device computes from its number, and the conditions -/

/-- A device's coordinates along `x`, `y`, `z`, and its number put together from them. -/
def wx (c : Dev nD) : BitVec 32 := Scalar.remsi (Scalar.divsi (Dev.word c) 4#32) 2#32
def wy (c : Dev nD) : BitVec 32 := Scalar.remsi (Scalar.divsi (Dev.word c) 2#32) 2#32
def wz (c : Dev nD) : BitVec 32 := Scalar.remsi (Scalar.divsi (Dev.word c) 1#32) 2#32
def sid (c : Dev nD) : BitVec 32 := Scalar.addi (Scalar.addi (Scalar.muli 4#32 (wx c)) (Scalar.muli 2#32 (wy c))) (wz c)

set_option maxRecDepth 4096 in
/-- A wait on the cell for `s` is passed over exactly on `s`. -/
theorem wait_iff : ∀ c s : Dev nD, Scalar.cmpi .ne (Scalar.extui (Scalar.cmpi .ne (sid c) (BitVec.ofNat 32 s.val))) 0#32 = 1#1 ↔ c ≠ s := by
  decide

set_option maxRecDepth 4096 in
/-- A signal to `s` is passed over exactly on `s`. -/
theorem signal_iff : ∀ c : Dev nD, (k0_cond1 c = 1#1 ↔ c ≠ 0) ∧ (k0_cond2 c = 1#1 ↔ c ≠ 1) ∧ (k0_cond3 c = 1#1 ↔ c ≠ 2) ∧ (k0_cond4 c = 1#1 ↔ c ≠ 3)
    ∧ (k0_cond5 c = 1#1 ↔ c ≠ 4) ∧ (k0_cond6 c = 1#1 ↔ c ≠ 5) ∧ (k0_cond7 c = 1#1 ↔ c ≠ 6) ∧ (k0_cond8 c = 1#1 ↔ c ≠ 7) := by decide

set_option maxRecDepth 4096 in
/-- Branch `s` is taken exactly on `s`. -/
theorem branch_iff : ∀ c : Dev nD, (k0_cond9 c = 1#1 ↔ c = 0) ∧ (k0_cond10 c = 1#1 ↔ c = 1) ∧ (k0_cond11 c = 1#1 ↔ c = 2) ∧ (k0_cond12 c = 1#1 ↔ c = 3)
    ∧ (k0_cond13 c = 1#1 ↔ c = 4) ∧ (k0_cond14 c = 1#1 ↔ c = 5) ∧ (k0_cond15 c = 1#1 ↔ c = 6) ∧ (k0_cond16 c = 1#1 ↔ c = 7) := by decide

/-! ## Whole-buffer contents -/

abbrev xPts (c : Dev nD) : sProp 𝕄 := (c : Thread nD τ).loc cc0_stg0_0 ↦{fullShare} xstg m ρ c
abbrev outPts (c : Dev nD) (f : Buf (Elt F) ((c : Thread nD τ).loc cc0_stg1_0)) : sProp 𝕄 := (c : Thread nD τ).loc cc0_stg1_0 ↦{fullShare} f

/-- The signals' targets. -/
theorem signal_dev : k0_dev1 = 0 ∧ k0_dev2 = 1 ∧ k0_dev3 = 2 ∧ k0_dev4 = 3 ∧ k0_dev5 = 4 ∧ k0_dev6 = 5 ∧ k0_dev7 = 6 ∧ k0_dev8 = 7 := by
  decide +kernel

variable {c : Dev nD}

attribute [local irreducible] k0_cond1 k0_cond2 k0_cond3 k0_cond4 k0_cond5 k0_cond6 k0_cond7 k0_cond8 k0_cond9 k0_cond10 k0_cond11 k0_cond12
  k0_cond13 k0_cond14 k0_cond15 k0_cond16

/-- The first six signals. -/
theorem part25 {X : sProp 𝕄} {Q : (Σ' (d0 : Dev nD) (v2 : BitVec 32) (v8 : BitVec 32) (v12 : BitVec 32) (v13 : Sems sig S_), BitVec 32) → sProp 𝕄}
    (h : iprop(records m ρ K ∗ Sig c (todo c 6) ∗ X) ⊢ Q ⟨c, wx c, wz c, sid c, SemArray.scalar (sig.barrier 0 rfl), 6#32⟩) :
    iprop(records m ρ K ∗ Sig c (todo c 0) ∗ X)
      ⊢ wpc c (k0_part25_skel xM (Memref.isWhole_whole _) oM (Memref.isWhole_whole _) cM (Memref.isWhole_whole _) gM (Memref.isWhole_whole _) cc0_scratch2 cc0_scratch3) Q := by
  obtain ⟨h0, h1, h2, h3, h4, h5, -, -⟩ := signal_iff c
  obtain ⟨d0, d1, d2, d3, d4, d5, d6, d7⟩ := signal_dev
  refine id_step ?_
  extract_lets
  refine sig_step m ρ K c 0 0 1 rfl rfl h0 (fun _ => Fin.ext d0) ?_
  refine sig_step m ρ K c 1 1 2 rfl rfl h1 (fun _ => Fin.ext d1) ?_
  refine sig_step m ρ K c 2 2 3 rfl rfl h2 (fun _ => Fin.ext d2) ?_
  refine sig_step m ρ K c 3 3 4 rfl rfl h3 (fun _ => Fin.ext d3) ?_
  refine sig_step m ρ K c 4 4 5 rfl rfl h4 (fun _ => Fin.ext d4) ?_
  refine sig_step m ρ K c 5 5 6 rfl rfl h5 (fun _ => Fin.ext d5) ?_
  exact ret_step h

/-- The last two signals and the load of the device's columns. -/
theorem part26 {X : sProp 𝕄} {Q : (Σ' (v45 : FVec F S256x1 .bf16) (v51 : FVec F S256x1 .bf16) (v57 : FVec F S256x1 .bf16) (v63 : FVec F S256x1 .bf16) (v69 : FVec F S256x1 .bf16), FVec F S256x256 .bf16) → sProp 𝕄}
    (h : iprop(records m ρ K ∗ Sig c (todo c 8) ∗ xPts m ρ c ∗ X)
      ⊢ Q ⟨k0_pay10 (cols m ρ c), k0_pay12 (cols m ρ c), k0_pay14 (cols m ρ c), k0_pay16 (cols m ρ c), k0_pay18 (cols m ρ c), k0_pay19 (cols m ρ c)⟩) :
    iprop(records m ρ K ∗ Sig c (todo c 6) ∗ xPts m ρ c ∗ X)
      ⊢ wpc c (k0_part26_skel xM (Memref.isWhole_whole _) oM (Memref.isWhole_whole _) cM (Memref.isWhole_whole _) gM (Memref.isWhole_whole _) cc0_scratch2 cc0_scratch3
        c (wx c) (wz c) (sid c) (SemArray.scalar (sig.barrier 0 rfl)) 6#32) Q := by
  obtain ⟨-, -, -, -, -, -, h6, h7⟩ := signal_iff c
  obtain ⟨d0, d1, d2, d3, d4, d5, d6, d7⟩ := signal_dev
  unfold k0_part26_skel
  extract_lets
  refine sig_step m ρ K c 6 6 7 rfl rfl h6 (fun _ => Fin.ext d6) ?_
  refine sig_step m ρ K c 7 7 8 rfl rfl h7 (fun _ => Fin.ext d7) ?_
  refine load_step xM (Finset.subset_univ _) ?_
  exact ret_step h

/-- The candidates stored, the barrier passed, the first five branches. -/
theorem part27 {X : sProp 𝕄} {Q : PUnit → sProp 𝕄}
    (h : iprop(records m ρ K ∗ St m ρ c 5 ∗ semVal (barCell c) 0 ∗ X) ⊢ Q ⟨⟩) :
    iprop(records m ρ K ∗ (∃ W, owes (c : Thread nD τ) (oweRcv c (Finset.univ.erase c)) W) ∗ (∃ f, ((c : Thread nD τ).loc cc0_scratch0) ↦{fullShare} f)
        ∗ ((cred (tallyAt (barCell c) () 7) ∗ atPos ER (barCell c) 0 ∅ 0) ∗ (∃ f, slotPts c c f)
          ∗ bigSep (Finset.univ.erase c) fun t => iprop(dutyTok ER (sndCell c t) 0 c ∗ dutyTok ER (rcvCell t c) 0 c)) ∗ X)
      ⊢ wpc c (k0_part27_skel xM (Memref.isWhole_whole _) oM (Memref.isWhole_whole _) cM (Memref.isWhole_whole _) gM (Memref.isWhole_whole _) cc0_scratch2 cc0_scratch3
        c (sid c) (SemArray.scalar (sig.barrier 0 rfl)) (k0_pay10 (cols m ρ c)) (k0_pay12 (cols m ρ c)) (k0_pay14 (cols m ρ c)) (k0_pay16 (cols m ρ c)) (k0_pay18 (cols m ρ c)) (k0_pay19 (cols m ρ c))) Q := by
  obtain ⟨b0, b1, b2, b3, b4, -, -, -⟩ := branch_iff c
  refine BIBase.Entails.trans (Q := iprop(∃ f, records m ρ K ∗ (∃ W, owes (c : Thread nD τ) (oweRcv c (Finset.univ.erase c)) W) ∗ (((c : Thread nD τ).loc cc0_scratch0) ↦{fullShare} f)
        ∗ ((cred (tallyAt (barCell c) () 7) ∗ atPos ER (barCell c) 0 ∅ 0) ∗ (∃ f, slotPts c c f)
          ∗ bigSep (Finset.univ.erase c) fun t => iprop(dutyTok ER (sndCell c t) 0 c ∗ dutyTok ER (rcvCell t c) 0 c)) ∗ X)) ?_ (exists_elim fun f => ?_)
  · iintro ⟨HR, HO, ⟨%f, Hc⟩, HY⟩
    iexists f
    isplitl [HR]; · iexact HR
    isplitl [HO]; · iexact HO
    isplitl [Hc] <;> iassumption
  unfold k0_part27_skel
  extract_lets
  refine load_step cM (S := Finset.univ) (Finset.subset_univ _) ?_
  refine store_cand ?_
  refine BIBase.Entails.trans (Q := iprop(records m ρ K ∗ PreBar m ρ c ∗ X)) ?_ (bar_step m ρ K ?_)
  · unfold PreBar
    iintro ⟨HR, HO, Hc, ⟨Hb, Hs, Htk⟩, HX⟩
    isplitl [HR]; · iexact HR
    isplitr [HX]
    · isplitl [HO]; · iexact HO
      isplitl [Hb]; · iexact Hb
      isplitl [Hc]; · iexact Hc
      isplitl [Hs]; · iexact Hs
      iexact Htk
    iexact HX
  rw [show Unsent m ρ c = St m ρ c 0 from (if_neg (Nat.not_lt_zero _)).symm]
  refine branch_step m ρ K c 0 0 1 rfl rfl [1, 2, 3, 4, 5, 6, 7] (by decide) (by decide)
    (fun h => [(⟨k0_dev9, k0_dev9_lt c h⟩, 1), (⟨k0_dev10, k0_dev10_lt c h⟩, 2), (⟨k0_dev11, k0_dev11_lt c h⟩, 3), (⟨k0_dev12, k0_dev12_lt c h⟩, 4), (⟨k0_dev13, k0_dev13_lt c h⟩, 5), (⟨k0_dev14, k0_dev14_lt c h⟩, 6), (⟨k0_dev15, k0_dev15_lt c h⟩, 7)])
    (fun h => targets (show [k0_dev9, k0_dev10, k0_dev11, k0_dev12, k0_dev13, k0_dev14, k0_dev15] = [1, 2, 3, 4, 5, 6, 7] by decide +kernel)) b0 (fun h => rfl) ?_
  refine branch_step m ρ K c 1 1 2 rfl rfl [0, 2, 3, 4, 5, 6, 7] (by decide) (by decide)
    (fun h => [(⟨k0_dev16, k0_dev16_lt c h⟩, 0), (⟨k0_dev17, k0_dev17_lt c h⟩, 2), (⟨k0_dev18, k0_dev18_lt c h⟩, 3), (⟨k0_dev19, k0_dev19_lt c h⟩, 4), (⟨k0_dev20, k0_dev20_lt c h⟩, 5), (⟨k0_dev21, k0_dev21_lt c h⟩, 6), (⟨k0_dev22, k0_dev22_lt c h⟩, 7)])
    (fun h => targets (show [k0_dev16, k0_dev17, k0_dev18, k0_dev19, k0_dev20, k0_dev21, k0_dev22] = [0, 2, 3, 4, 5, 6, 7] by decide +kernel)) b1 (fun h => rfl) ?_
  refine branch_step m ρ K c 2 2 3 rfl rfl [0, 1, 3, 4, 5, 6, 7] (by decide) (by decide)
    (fun h => [(⟨k0_dev23, k0_dev23_lt c h⟩, 0), (⟨k0_dev24, k0_dev24_lt c h⟩, 1), (⟨k0_dev25, k0_dev25_lt c h⟩, 3), (⟨k0_dev26, k0_dev26_lt c h⟩, 4), (⟨k0_dev27, k0_dev27_lt c h⟩, 5), (⟨k0_dev28, k0_dev28_lt c h⟩, 6), (⟨k0_dev29, k0_dev29_lt c h⟩, 7)])
    (fun h => targets (show [k0_dev23, k0_dev24, k0_dev25, k0_dev26, k0_dev27, k0_dev28, k0_dev29] = [0, 1, 3, 4, 5, 6, 7] by decide +kernel)) b2 (fun h => rfl) ?_
  refine branch_step m ρ K c 3 3 4 rfl rfl [0, 1, 2, 4, 5, 6, 7] (by decide) (by decide)
    (fun h => [(⟨k0_dev30, k0_dev30_lt c h⟩, 0), (⟨k0_dev31, k0_dev31_lt c h⟩, 1), (⟨k0_dev32, k0_dev32_lt c h⟩, 2), (⟨k0_dev33, k0_dev33_lt c h⟩, 4), (⟨k0_dev34, k0_dev34_lt c h⟩, 5), (⟨k0_dev35, k0_dev35_lt c h⟩, 6), (⟨k0_dev36, k0_dev36_lt c h⟩, 7)])
    (fun h => targets (show [k0_dev30, k0_dev31, k0_dev32, k0_dev33, k0_dev34, k0_dev35, k0_dev36] = [0, 1, 2, 4, 5, 6, 7] by decide +kernel)) b3 (fun h => rfl) ?_
  refine branch_step m ρ K c 4 4 5 rfl rfl [0, 1, 2, 3, 5, 6, 7] (by decide) (by decide)
    (fun h => [(⟨k0_dev37, k0_dev37_lt c h⟩, 0), (⟨k0_dev38, k0_dev38_lt c h⟩, 1), (⟨k0_dev39, k0_dev39_lt c h⟩, 2), (⟨k0_dev40, k0_dev40_lt c h⟩, 3), (⟨k0_dev41, k0_dev41_lt c h⟩, 5), (⟨k0_dev42, k0_dev42_lt c h⟩, 6), (⟨k0_dev43, k0_dev43_lt c h⟩, 7)])
    (fun h => targets (show [k0_dev37, k0_dev38, k0_dev39, k0_dev40, k0_dev41, k0_dev42, k0_dev43] = [0, 1, 2, 3, 5, 6, 7] by decide +kernel)) b4 (fun h => rfl) ?_
  exact ret_step h

set_option maxHeartbeats 2000000 in
/-- The last three branches and the first seven waits for the filled slots. -/
theorem part28 {X Y : sProp 𝕄} {Q : PUnit → sProp 𝕄}
    (hmid : iprop(records m ρ K ∗ St m ρ c 8 ∗ X) ⊢ iprop(records m ρ K ∗ Waits m ρ (rcvSide m ρ c) 0 ∗ Y))
    (h : iprop(records m ρ K ∗ Waits m ρ (rcvSide m ρ c) 7 ∗ Y) ⊢ Q ⟨⟩) :
    iprop(records m ρ K ∗ St m ρ c 5 ∗ X) ⊢ wpc c (k0_part28_skel xM (Memref.isWhole_whole _) oM (Memref.isWhole_whole _) cM (Memref.isWhole_whole _) gM (Memref.isWhole_whole _) cc0_scratch2 cc0_scratch3 c (sid c)) Q := by
  obtain ⟨-, -, -, -, -, b5, b6, b7⟩ := branch_iff c
  unfold k0_part28_skel
  extract_lets
  refine branch_step m ρ K c 5 5 6 rfl rfl [0, 1, 2, 3, 4, 6, 7] (by decide) (by decide)
    (fun h => [(⟨k0_dev44, k0_dev44_lt c h⟩, 0), (⟨k0_dev45, k0_dev45_lt c h⟩, 1), (⟨k0_dev46, k0_dev46_lt c h⟩, 2), (⟨k0_dev47, k0_dev47_lt c h⟩, 3), (⟨k0_dev48, k0_dev48_lt c h⟩, 4), (⟨k0_dev49, k0_dev49_lt c h⟩, 6), (⟨k0_dev50, k0_dev50_lt c h⟩, 7)])
    (fun h => targets (show [k0_dev44, k0_dev45, k0_dev46, k0_dev47, k0_dev48, k0_dev49, k0_dev50] = [0, 1, 2, 3, 4, 6, 7] by decide +kernel)) b5 (fun h => rfl) ?_
  refine branch_step m ρ K c 6 6 7 rfl rfl [0, 1, 2, 3, 4, 5, 7] (by decide) (by decide)
    (fun h => [(⟨k0_dev51, k0_dev51_lt c h⟩, 0), (⟨k0_dev52, k0_dev52_lt c h⟩, 1), (⟨k0_dev53, k0_dev53_lt c h⟩, 2), (⟨k0_dev54, k0_dev54_lt c h⟩, 3), (⟨k0_dev55, k0_dev55_lt c h⟩, 4), (⟨k0_dev56, k0_dev56_lt c h⟩, 5), (⟨k0_dev57, k0_dev57_lt c h⟩, 7)])
    (fun h => targets (show [k0_dev51, k0_dev52, k0_dev53, k0_dev54, k0_dev55, k0_dev56, k0_dev57] = [0, 1, 2, 3, 4, 5, 7] by decide +kernel)) b6 (fun h => rfl) ?_
  refine branch_step m ρ K c 7 7 8 rfl rfl [0, 1, 2, 3, 4, 5, 6] (by decide) (by decide)
    (fun h => [(⟨k0_dev58, k0_dev58_lt c h⟩, 0), (⟨k0_dev59, k0_dev59_lt c h⟩, 1), (⟨k0_dev60, k0_dev60_lt c h⟩, 2), (⟨k0_dev61, k0_dev61_lt c h⟩, 3), (⟨k0_dev62, k0_dev62_lt c h⟩, 4), (⟨k0_dev63, k0_dev63_lt c h⟩, 5), (⟨k0_dev64, k0_dev64_lt c h⟩, 6)])
    (fun h => targets (show [k0_dev58, k0_dev59, k0_dev60, k0_dev61, k0_dev62, k0_dev63, k0_dev64] = [0, 1, 2, 3, 4, 5, 6] by decide +kernel)) b7 (fun h => rfl) ?_
  refine hmid.trans ?_
  refine wait_step m ρ K (rcvSide m ρ c) 0 0 1 rfl rfl (wait_iff c 0) rfl rfl ?_
  refine wait_step m ρ K (rcvSide m ρ c) 1 1 2 rfl rfl (wait_iff c 1) rfl rfl ?_
  refine wait_step m ρ K (rcvSide m ρ c) 2 2 3 rfl rfl (wait_iff c 2) rfl rfl ?_
  refine wait_step m ρ K (rcvSide m ρ c) 3 3 4 rfl rfl (wait_iff c 3) rfl rfl ?_
  refine wait_step m ρ K (rcvSide m ρ c) 4 4 5 rfl rfl (wait_iff c 4) rfl rfl ?_
  refine wait_step m ρ K (rcvSide m ρ c) 5 5 6 rfl rfl (wait_iff c 5) rfl rfl ?_
  refine wait_step m ρ K (rcvSide m ρ c) 6 6 7 rfl rfl (wait_iff c 6) rfl rfl ?_
  exact ret_step h

abbrev gPts (c : Dev nD) : sProp 𝕄 := (c : Thread nD τ).loc cc0_scratch1 ↦{fullShare} gath m ρ

/-- The last wait for a slot and the loads of the eight slots. -/
theorem part29 {X Y B : sProp 𝕄} {Q : (Σ' (v159 : FVec F S256x1 .f32) (v163 : FVec F S256x64 .f32) (v165 : FVec F S256x1 .f32), IVec S256x64 1) → sProp 𝕄}
    (hmid : iprop(records m ρ K ∗ Waits m ρ (rcvSide m ρ c) 8 ∗ X) ⊢ iprop(records m ρ K ∗ B ∗ gPts m ρ c ∗ Y))
    (h : iprop(records m ρ K ∗ B ∗ gPts m ρ c ∗ Y) ⊢ Q
      ⟨k0_pay22 (slotV m ρ 0) (slotV m ρ 1) (slotV m ρ 2) (slotV m ρ 3) (slotV m ρ 4) (slotV m ρ 5) (slotV m ρ 6) (slotV m ρ 7),
       k0_pay23 (slotV m ρ 0) (slotV m ρ 1) (slotV m ρ 2) (slotV m ρ 3) (slotV m ρ 4) (slotV m ρ 5) (slotV m ρ 6) (slotV m ρ 7),
       k0_pay24 (slotV m ρ 0) (slotV m ρ 1) (slotV m ρ 2) (slotV m ρ 3) (slotV m ρ 4) (slotV m ρ 5) (slotV m ρ 6) (slotV m ρ 7),
       k0_pay25 (slotV m ρ 0) (slotV m ρ 1) (slotV m ρ 2) (slotV m ρ 3) (slotV m ρ 4) (slotV m ρ 5) (slotV m ρ 6) (slotV m ρ 7)⟩) :
    iprop(records m ρ K ∗ Waits m ρ (rcvSide m ρ c) 7 ∗ X) ⊢ wpc c (k0_part29_skel xM (Memref.isWhole_whole _) oM (Memref.isWhole_whole _) cM (Memref.isWhole_whole _) gM (Memref.isWhole_whole _) cc0_scratch2 cc0_scratch3 (sid c)) Q := by
  unfold k0_part29_skel
  extract_lets
  refine wait_step m ρ K (rcvSide m ρ c) 7 7 8 rfl rfl (wait_iff c 7) rfl rfl ?_
  refine hmid.trans ?_
  refine load_step gM (S := Finset.univ) (Finset.subset_univ _) ?_
  refine load_step gM (S := Finset.univ) (Finset.subset_univ _) ?_
  refine load_step gM (S := Finset.univ) (Finset.subset_univ _) ?_
  refine load_step gM (S := Finset.univ) (Finset.subset_univ _) ?_
  refine load_step gM (S := Finset.univ) (Finset.subset_univ _) ?_
  refine load_step gM (S := Finset.univ) (Finset.subset_univ _) ?_
  refine load_step gM (S := Finset.univ) (Finset.subset_univ _) ?_
  refine load_step gM (S := Finset.univ) (Finset.subset_univ _) ?_
  exact ret_step h

/-- The result stored, and the first wait for a copy sent. -/
theorem part30 {X : sProp 𝕄} {Q : BitVec 32 → sProp 𝕄}
    (h : iprop(records m ρ K ∗ Waits m ρ (sndSide m ρ c) 1 ∗ outPts c (outV m ρ) ∗ X) ⊢ Q (Scalar.extui (Scalar.cmpi .ne (sid c) 1#32))) :
    iprop(records m ρ K ∗ Waits m ρ (sndSide m ρ c) 0 ∗ (∃ f, outPts c f) ∗ X) ⊢ wpc c (k0_part30_skel xM (Memref.isWhole_whole _) oM (Memref.isWhole_whole _) cM (Memref.isWhole_whole _) gM (Memref.isWhole_whole _) cc0_scratch2 cc0_scratch3 (sid c)
       (k0_pay22 (slotV m ρ 0) (slotV m ρ 1) (slotV m ρ 2) (slotV m ρ 3) (slotV m ρ 4) (slotV m ρ 5) (slotV m ρ 6) (slotV m ρ 7))
       (k0_pay23 (slotV m ρ 0) (slotV m ρ 1) (slotV m ρ 2) (slotV m ρ 3) (slotV m ρ 4) (slotV m ρ 5) (slotV m ρ 6) (slotV m ρ 7))
       (k0_pay24 (slotV m ρ 0) (slotV m ρ 1) (slotV m ρ 2) (slotV m ρ 3) (slotV m ρ 4) (slotV m ρ 5) (slotV m ρ 6) (slotV m ρ 7))
       (k0_pay25 (slotV m ρ 0) (slotV m ρ 1) (slotV m ρ 2) (slotV m ρ 3) (slotV m ρ 4) (slotV m ρ 5) (slotV m ρ 6) (slotV m ρ 7))) Q := by
  refine BIBase.Entails.trans (Q := iprop(∃ f, records m ρ K ∗ Waits m ρ (sndSide m ρ c) 0 ∗ outPts c f ∗ X)) ?_ (exists_elim fun f => ?_)
  · iintro ⟨HR, HW, ⟨%f, Ho⟩, HX⟩
    iexists f
    isplitl [HR]; · iexact HR
    isplitl [HW]; · iexact HW
    isplitl [Ho] <;> iassumption
  unfold k0_part30_skel
  extract_lets
  refine load_step oM (S := Finset.univ) (Finset.subset_univ _) ?_
  refine store_out ?_
  refine wait_step m ρ K (sndSide m ρ c) 0 0 1 rfl rfl (wait_iff c 0) rfl rfl ?_
  exact ret_step h

end Cert.TopK
-- ==== Proof.Body.lean ====
/-
# The body

The parts of the printed body put together: from what the launch hands a device to what it hands back.
-/
module

public import proofs.«01_k».proof.Proof.Parts
public import proofs.«01_k».proof.Proof.Gen.KernelIdeal.Points

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The positions, and the duty tokens device `c` pays with. -/
def lin (c : Dev nD) : sProp 𝕄 :=
  iprop(atPos ER (barCell c) 0 ∅ 0
    ∗ (bigSep Finset.univ fun t : Dev nD => atPos ER (sndCell c t) 0 ∅ 0) ∗ (bigSep Finset.univ fun s : Dev nD => atPos ER (rcvCell c s) 0 ∅ 0)
    ∗ (bigSep (Finset.univ.erase c) fun t : Dev nD => dutyTok ER (barCell t) 0 c)
    ∗ (bigSep (Finset.univ.erase c) fun t : Dev nD => iprop(dutyTok ER (sndCell c t) 0 c ∗ dutyTok ER (rcvCell t c) 0 c)))

/-- The credits of the launch: seven units of the barrier, one array from each other device. -/
def creds (c : Dev nD) : sProp 𝕄 :=
  iprop(cred (tallyAt (barCell c) () 7) ∗ bigSep (Finset.univ.erase c) fun s : Dev nD => cred (tallyAt (rcvCell c s) () N))

def start (c : Dev nD) : sProp 𝕄 := iprop((∃ K, records m ρ K) ∗ lin c ∗ creds c)

abbrev candOwn (c : Dev nD) : sProp 𝕄 := iprop(∃ f, ((c : Thread nD τ).loc cc0_scratch0) ↦{fullShare} f)
abbrev gathOwn (c : Dev nD) : sProp 𝕄 := iprop(∃ f, ((c : Thread nD τ).loc cc0_scratch1) ↦{fullShare} f)

def Φ₀ (c : Dev nD) : sProp 𝕄 := iprop(start m ρ c ∗ candOwn c ∗ gathOwn c)

/-- After the body: both scratch buffers, and every cell closed at zero. -/
def Φ₁ (c : Dev nD) : sProp 𝕄 :=
  iprop((candOwn c ∗ gathOwn c) ∗ semVal (barCell c) 0
    ∗ (bigSep Finset.univ fun t : Dev nD => semVal (sndCell c t) 0) ∗ bigSep Finset.univ fun s : Dev nD => semVal (rcvCell c s) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outV m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Regrouping between the parts -/

section Regroup
variable {m ρ}
variable (K : Dev nD × CK → ℕ)

/-- What waits for the receive side: the cells' positions and credits. -/
def rcvPos (c : Dev nD) : sProp 𝕄 :=
  iprop((bigSep Finset.univ fun s : Dev nD => atPos ER (rcvCell c s) 0 ∅ 0) ∗ bigSep (Finset.univ.erase c) fun s : Dev nD => cred (tallyAt (rcvCell c s) () N))
/-- The positions of the send cells. -/
def sndPos (c : Dev nD) : sProp 𝕄 := bigSep Finset.univ fun t : Dev nD => atPos ER (sndCell c t) 0 ∅ 0
/-- The barrier's credit and position, the device's own slot, its copies' duty tokens. -/
abbrev own27 (c : Dev nD) : sProp 𝕄 :=
  iprop((cred (tallyAt (barCell c) () 7) ∗ atPos ER (barCell c) 0 ∅ 0) ∗ (∃ f, slotPts c c f)
          ∗ bigSep (Finset.univ.erase c) fun t => iprop(dutyTok ER (sndCell c t) 0 c ∗ dutyTok ER (rcvCell t c) 0 c))

/-- At entry the gather buffer is split into its slots. -/
theorem enter (c : Dev nD) :
    iprop((∃ W, owes (c : Thread nD τ) (O₀ c) W) ∗ lin c ∗ creds c ∗ gathOwn (F := F) c)
      ⊢ iprop(Sig c (todo c 0) ∗ own27 c ∗ rcvPos c ∗ sndPos c) := by
  have hs : ∀ f, (((c : Thread nD τ).loc cc0_scratch1) ↦{fullShare} f : sProp 𝕄)
      ⊢ iprop((∃ f, slotPts c c f) ∗ bigSep (Finset.univ.erase c) fun t => iprop(∃ f, slotPts c t f)) := fun f => by
    rw [gather_slots, bigSep_take (Finset.mem_univ c)]
    iintro ⟨H1, H2⟩
    isplitl [H1]; · iexists f; iexact H1
    iapply (show (bigSep (Finset.univ.erase c) fun t => slotPts c t f) ⊢ bigSep (Finset.univ.erase c) fun t => iprop(∃ f, slotPts (F := F) c t f) from
      bigSep_mono fun t _ => show slotPts c t f ⊢ iprop(∃ f, slotPts (F := F) c t f) from by iintro H; iexists f; iexact H)
    iexact H2
  unfold lin creds Sig rcvPos sndPos
  rw [todo_zero, show (bigSep (Finset.univ.erase c) fun t => iprop(dutyTok ER (barCell t) 0 c ∗ ∃ f, slotPts (F := F) c t f)) =
      iprop((bigSep (Finset.univ.erase c) fun t => dutyTok ER (barCell t) 0 c) ∗ bigSep (Finset.univ.erase c) fun t => iprop(∃ f, slotPts (F := F) c t f)) from bigSep_sep' _ _ _]
  iintro ⟨HO, ⟨Hb, Hs, Hr, Htb, Htk⟩, ⟨Hcb, Hcr⟩, ⟨%f, Hg⟩⟩
  ihave Hg' := (hs f) $$ Hg
  icases Hg' with ⟨Ho, Hsl⟩
  isplitl [HO Htb Hsl]
  · isplitl [HO]; · iexact HO
    isplitl [Htb] <;> iassumption
  isplitl [Hcb Hb Ho Htk]
  · isplitl [Hcb Hb]
    · isplitl [Hcb] <;> iassumption
    isplitl [Ho] <;> iassumption
  isplitl [Hr Hcr]
  · isplitl [Hr] <;> iassumption
  iexact Hs

/-- After the signals no barrier unit is owed. -/
theorem signalled (c : Dev nD) :
    Sig (F := F) c (todo c 8) ⊢ iprop(∃ W, owes (c : Thread nD τ) (oweRcv c (Finset.univ.erase c)) W) := by
  unfold Sig
  rw [todo_last, show oweBar (∅ : Finset (Dev nD)) = 0 from Finset.sum_empty, add_zero]
  iintro ⟨H, -⟩
  iexact H

/-- A side's waits before the first. -/
theorem waits_intro {c : Dev nD} (S : Side m ρ c) :
    iprop((∃ W, owes (c : Thread nD τ) 0 W) ∗ (bigSep Finset.univ fun s : Dev nD => atPos ER (S.cell s) 0 ∅ 0) ∗ S.pay c
        ∗ bigSep (Finset.univ.erase c) fun s : Dev nD => cred (tallyAt (S.cell s) () N))
      ⊢ Waits m ρ S 0 := by
  unfold Waits
  rw [Finset.filter_true_of_mem (fun s _ => Nat.zero_le _), Finset.filter_false_of_mem (fun s _ => Nat.not_lt_zero _), bigSep_empty,
    show (bigSep Finset.univ (Before m ρ S) : sProp 𝕄) = iprop((bigSep Finset.univ fun s : Dev nD => atPos ER (S.cell s) 0 ∅ 0)
      ∗ bigSep Finset.univ fun s : Dev nD => if s = c then S.pay s else cred (tallyAt (S.cell s) () N)) from bigSep_sep' _ _ _,
    bigSep_take (Finset.mem_univ c) (Φ := fun s : Dev nD => if s = c then S.pay s else cred (tallyAt (S.cell s) () N)), if_pos rfl,
    bigSep_congr (s := Finset.univ.erase c) (Φ := fun s : Dev nD => if s = c then S.pay s else cred (tallyAt (S.cell s) () N))
      (Ψ := fun s : Dev nD => cred (tallyAt (S.cell s) () N)) fun s hs => if_neg (Finset.ne_of_mem_erase hs)]
  iintro ⟨HO, Hp, Hc, Hs⟩
  isplitl [HO]; · iexact HO
  isplitl [Hp Hc Hs]
  · isplitl [Hp]; · iexact Hp
    isplitl [Hc] <;> iassumption
  iempintro

/-- A side's waits after the last. -/
theorem waits_done {c : Dev nD} (S : Side m ρ c) :
    Waits m ρ S 8 ⊢ iprop((∃ W, owes (c : Thread nD τ) 0 W) ∗ (bigSep Finset.univ fun s : Dev nD => semVal (S.cell s) 0) ∗ bigSep Finset.univ S.pay) := by
  unfold Waits
  rw [Finset.filter_true_of_mem (s := Finset.univ) (p := fun s : Dev nD => s.val < 8) (fun s _ => s.isLt),
    show (bigSep Finset.univ (After m ρ S) : sProp 𝕄) = iprop((bigSep Finset.univ fun s : Dev nD => semVal (S.cell s) 0) ∗ bigSep Finset.univ S.pay) from bigSep_sep' _ _ _]
  iintro ⟨HO, -, HA⟩
  isplitl [HO] <;> iassumption

/-- What the send side's waits start from, besides what is owed. -/
def sndStart (m : (ℓ : Loc nD τ sig) → Buf (Elt F) ℓ) (ρ : Dev nD → PrngReg) (c : Dev nD) : sProp 𝕄 :=
  iprop(sndPos c ∗ candPts m ρ c c ∗ bigSep (Finset.univ.erase c) fun t => cred (tallyAt (sndCell c t) () N))

theorem mid28 {c : Dev nD} {X : sProp 𝕄} :
    iprop(records m ρ K ∗ St m ρ c 8 ∗ (rcvPos c ∗ sndPos c ∗ X)) ⊢ iprop(records m ρ K ∗ Waits m ρ (rcvSide m ρ c) 0 ∗ (sndStart m ρ c ∗ X)) := by
  refine BIBase.Entails.trans (Q := iprop(records m ρ K ∗ ((∃ W, owes (c : Thread nD τ) 0 W)
    ∗ (bigSep Finset.univ fun s : Dev nD => atPos ER ((rcvSide m ρ c).cell s) 0 ∅ 0) ∗ (rcvSide m ρ c).pay c
        ∗ bigSep (Finset.univ.erase c) fun s : Dev nD => cred (tallyAt ((rcvSide m ρ c).cell s) () N)) ∗ (sndStart m ρ c ∗ X))) ?_ ?_
  · rw [show St m ρ c 8 = Sent m ρ c from if_pos c.isLt, show (rcvSide m ρ c).pay c = slotPts c c (gath m ρ) from rfl]
    unfold Sent sndStart rcvPos
    iintro ⟨HR, ⟨HO, Hc, Hs, Hcr⟩, ⟨Hr, Hrc⟩, Hsp, HX⟩
    isplitl [HR]; · iexact HR
    isplitl [HO Hr Hs Hrc]
    · isplitl [HO]; · iexact HO
      isplitl [Hr]; · iexact Hr
      isplitl [Hs]; · iexact Hs
      iexact Hrc
    isplitl [Hsp Hc Hcr]
    · isplitl [Hsp]; · iexact Hsp
      isplitl [Hc] <;> iassumption
    iexact HX
  · iintro ⟨HR, H, HX⟩
    isplitl [HR]; · iexact HR
    isplitl [H]; · iapply (waits_intro (rcvSide m ρ c)); iexact H
    iexact HX

theorem mid29 {c : Dev nD} {X : sProp 𝕄} :
    iprop(records m ρ K ∗ Waits m ρ (rcvSide m ρ c) 8 ∗ (sndStart m ρ c ∗ X))
      ⊢ iprop(records m ρ K ∗ Waits m ρ (sndSide m ρ c) 0 ∗ gPts m ρ c ∗ ((bigSep Finset.univ fun s : Dev nD => semVal (rcvCell c s) 0) ∗ X)) := by
  have h1 : (bigSep Finset.univ (rcvSide m ρ c).pay : sProp 𝕄) ⊢ gPts m ρ c := Entails.of_eq (gather_slots c (gath m ρ)).symm
  refine BIBase.Entails.trans (Q := iprop(records m ρ K ∗ ((∃ W, owes (c : Thread nD τ) 0 W)
    ∗ (bigSep Finset.univ fun s : Dev nD => atPos ER ((sndSide m ρ c).cell s) 0 ∅ 0) ∗ (sndSide m ρ c).pay c
        ∗ bigSep (Finset.univ.erase c) fun s : Dev nD => cred (tallyAt ((sndSide m ρ c).cell s) () N))
        ∗ gPts m ρ c ∗ ((bigSep Finset.univ fun s : Dev nD => semVal (rcvCell c s) 0) ∗ X))) ?_ ?_
  · rw [show (sndSide m ρ c).pay c = candPts m ρ c c from rfl]
    unfold sndStart sndPos
    iintro ⟨HR, HW, ⟨Hsp, Hc, Hcr⟩, HX⟩
    ihave HW' := (waits_done (rcvSide m ρ c)) $$ HW
    icases HW' with ⟨HO, Hz, Hp⟩
    isplitl [HR]; · iexact HR
    isplitl [HO Hsp Hc Hcr]
    · isplitl [HO]; · iexact HO
      isplitl [Hsp]; · iexact Hsp
      isplitl [Hc]; · iexact Hc
      iexact Hcr
    isplitl [Hp]; · iapply h1; iexact Hp
    isplitl [Hz]; · iexact Hz
    iexact HX
  · iintro ⟨HR, H, HX⟩
    isplitl [HR]; · iexact HR
    isplitl [H]; · iapply (waits_intro (sndSide m ρ c)); iexact H
    iexact HX

/-- After the last wait: `cand` whole again, its cells at zero. -/
theorem leave (c : Dev nD) :
    Waits m ρ (sndSide m ρ c) 8 ⊢ iprop((∃ W, owes (c : Thread nD τ) 0 W) ∗ (bigSep Finset.univ fun t : Dev nD => semVal (sndCell c t) 0) ∗ candOwn c) := by
  refine (waits_done (sndSide m ρ c)).trans ?_
  have h1 : (bigSep Finset.univ (sndSide m ρ c).pay : sProp 𝕄) ⊢ candOwn c :=
    (Entails.of_eq (cand_shares m ρ c).symm).trans (by iintro H; iexists _; iexact H)
  iintro ⟨HO, Hz, Hp⟩
  isplitl [HO]; · iexact HO
  isplitl [Hz]; · iexact Hz
  iapply h1; iexact Hp

end Regroup

/-! ## The walk -/

set_option maxHeartbeats 2000000 in
/-- The body from the regrouped launch state to the result stored and everything handed back. -/
theorem walk (K : Dev nD × CK → ℕ) (c : Dev nD) {Q : PUnit → sProp 𝕄}
    (h : iprop(records m ρ K ∗ Waits m ρ (sndSide m ρ c) 8 ∗ outPts c (outV m ρ)
      ∗ (gPts m ρ c ∗ (bigSep Finset.univ fun s : Dev nD => semVal (rcvCell c s) 0) ∗ semVal (barCell c) 0 ∗ xPts m ρ c)) ⊢ Q ⟨⟩) :
    iprop(records m ρ K ∗ Sig c (todo c 0) ∗ (xPts m ρ c ∗ candOwn c ∗ own27 c ∗ (rcvPos c ∗ sndPos c ∗ (∃ f, outPts c f))))
      ⊢ wpc c (cc0_body xM (Memref.isWhole_whole _) oM (Memref.isWhole_whole _) cM (Memref.isWhole_whole _) gM (Memref.isWhole_whole _) cc0_scratch2 cc0_scratch3) Q := by
  rw [cc0_body_eq_skeleton]
  unfold cc0_body_skel
  rw [k0_part25_eq_skeleton, k0_part26_eq_skeleton, k0_part27_eq_skeleton, k0_part28_eq_skeleton, k0_part29_eq_skeleton, k0_part30_eq_skeleton]
  refine seq_step (part25 m ρ K ?_)
  refine seq_step (part26 m ρ K ?_)
  refine BIBase.Entails.trans (Q := iprop(records m ρ K ∗ (∃ W, owes (c : Thread nD τ) (oweRcv c (Finset.univ.erase c)) W) ∗ candOwn c ∗ own27 c
    ∗ (xPts m ρ c ∗ rcvPos c ∗ sndPos c ∗ (∃ f, outPts c f)))) ?_ ?_
  · iintro ⟨HR, HS, Hx, Hc, Ho, HX⟩
    isplitl [HR]; · iexact HR
    isplitl [HS]; · iapply (signalled c); iexact HS
    isplitl [Hc]; · iexact Hc
    isplitl [Ho]; · iexact Ho
    isplitl [Hx] <;> iassumption
  refine seq_step (part27 m ρ K ?_)
  refine BIBase.Entails.trans (Q := iprop(records m ρ K ∗ St m ρ c 5 ∗ (rcvPos c ∗ sndPos c ∗ (semVal (barCell c) 0 ∗ xPts m ρ c ∗ (∃ f, outPts c f))))) ?_ ?_
  · iintro ⟨HR, HS, Hz, Hx, Hr, Hs, Ho⟩
    isplitl [HR]; · iexact HR
    isplitl [HS]; · iexact HS
    isplitl [Hr]; · iexact Hr
    isplitl [Hs]; · iexact Hs
    isplitl [Hz]; · iexact Hz
    isplitl [Hx] <;> iassumption
  refine seq_step (part28 m ρ K (mid28 K) ?_)
  refine seq_step (part29 m ρ K (mid29 K) ?_)
  refine BIBase.Entails.trans (Q := iprop(records m ρ K ∗ Waits m ρ (sndSide m ρ c) 0 ∗ (∃ f, outPts c f)
    ∗ (gPts m ρ c ∗ (bigSep Finset.univ fun s : Dev nD => semVal (rcvCell c s) 0) ∗ semVal (barCell c) 0 ∗ xPts m ρ c))) ?_ ?_
  · iintro ⟨HR, HS, Hg, Hz, Hb, Hx, Ho⟩
    isplitl [HR]; · iexact HR
    isplitl [HS]; · iexact HS
    isplitl [Ho]; · iexact Ho
    isplitl [Hg]; · iexact Hg
    isplitl [Hz]; · iexact Hz
    isplitl [Hb] <;> iassumption
  refine seq_step (part30 m ρ K ?_)
  extract_lets
  refine wait_step m ρ K (sndSide m ρ c) 1 1 2 rfl rfl (wait_iff c 1) rfl rfl ?_
  refine wait_step m ρ K (sndSide m ρ c) 2 2 3 rfl rfl (wait_iff c 2) rfl rfl ?_
  refine wait_step m ρ K (sndSide m ρ c) 3 3 4 rfl rfl (wait_iff c 3) rfl rfl ?_
  refine wait_step m ρ K (sndSide m ρ c) 4 4 5 rfl rfl (wait_iff c 4) rfl rfl ?_
  refine wait_step m ρ K (sndSide m ρ c) 5 5 6 rfl rfl (wait_iff c 5) rfl rfl ?_
  refine wait_step m ρ K (sndSide m ρ c) 6 6 7 rfl rfl (wait_iff c 6) rfl rfl ?_
  refine wait_step m ρ K (sndSide m ρ c) 7 7 8 rfl rfl (wait_iff c 7) rfl rfl ?_
  exact ret_step h

/-! ## The body's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outV m ρ))

theorem sound_body (c : Dev nD) :
    bodyPre m ρ c ⊢ wpc c (cc0_body xM (Memref.isWhole_whole _) oM (Memref.isWhole_whole _) cM (Memref.isWhole_whole _) gM (Memref.isWhole_whole _) cc0_scratch2 cc0_scratch3)
      (fun _ => bodyPost m ρ c) := by
  have hpost : ∀ K, iprop(records m ρ K ∗ Waits m ρ (sndSide m ρ c) 8 ∗ outPts c (outV m ρ)
      ∗ (gPts m ρ c ∗ (bigSep Finset.univ fun s : Dev nD => semVal (rcvCell c s) 0) ∗ semVal (barCell c) 0 ∗ xPts m ρ c)) ⊢ bodyPost m ρ c := fun K => by
    unfold bodyPost Φ₁ Dat.owesAt Pipeline.owesWithin
    rw [show (dats m ρ 0 c).owed t₀.succ = 0 from rfl]
    iintro ⟨-, HW, Ho, Hg, Hr, Hb, Hx⟩
    ihave HW' := (leave c) $$ HW
    icases HW' with ⟨⟨%W, HO⟩, Hs, Hc⟩
    isplitl [Hc Hg Hb Hs Hr]
    · isplitl [Hc Hg]
      · isplitl [Hc]; · iexact Hc
        iexists _; iexact Hg
      isplitl [Hb]; · iexact Hb
      isplitl [Hs] <;> iassumption
    isplitl [HO]
    · iexists W
      isplitr; · ipureintro; exact fun _ _ => Or.inl trivial
      iexact HO
    isplitl [Hx]
    · iexists _; isplitr; · (ipureintro; rfl)
      iexact Hx
    iexists _; isplitr; · (ipureintro; rfl)
    iexact Ho
  unfold bodyPre Φ₀ start Dat.owesAt Pipeline.owesWithin
  rw [show (dats m ρ 0 c).owed t₀.castSucc = O₀ c from rfl]
  iintro ⟨⟨⟨⟨%K, HR⟩, Hl, Hcr⟩, Hc, Hg⟩, ⟨%W, %hW, HO⟩, ⟨%d0, %g0, %hg0, Hx⟩, ⟨%d1, %g1, %hg1, Hout⟩⟩
  have hx : g0 = xstg m ρ c := by rw [hg0]; unfold Dat.before; rw [if_pos (fetch0_0 t₀)]; rfl
  subst hx
  ihave He := (enter c) $$ [HO Hl Hcr Hg]
  · isplitl [HO]; · iexists W; iexact HO
    isplitl [Hl]; · iexact Hl
    isplitl [Hcr] <;> iassumption
  icases He with ⟨HS, Ho, Hrp, Hsp⟩
  iapply (walk m ρ K c (hpost K))
  isplitl [HR]; · iexact HR
  isplitl [HS]; · iexact HS
  isplitl [Hx]; · iexact Hx
  isplitl [Hc]; · iexact Hc
  isplitl [Ho]; · iexact Ho
  isplitl [Hrp]; · iexact Hrp
  isplitl [Hsp]; · iexact Hsp
  iexists g1; iexact Hout

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.TopK
-- ==== Proof.Launch.lean ====
/-
# The launch

The cells allocated on every device at once, the duty tokens dealt to the devices that pay with them, the credits of the
launch, and the run of the whole program.
-/
module

public import proofs.«01_k».proof.Proof.Body
public import Idealize.ShloMosaic.Lib.Pipeline.CollectiveSegs
public import Idealize.ShloMosaic.Lib.Quiescent

@[expose] public section

noncomputable section

namespace Cert.TopK

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: the eight send and the eight receive semaphores. -/
abbrev osem : Fin 8 ⊕ Fin 8 → SemLoc sig := fun k => csem (.inr k)

theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) := Finset.univ.map ⟨kcell, kcell_injective⟩

/-- A device's own cells' duty tokens as minted: for each device one at the barrier, the send cell, the receive cell. -/
abbrev tokOf (cj : Dev nD × (Dev nD ⊕ (Dev nD ⊕ Dev nD))) : GSem nD τ sig × ℕ × Dev nD := match cj.2 with
  | .inl t => (barCell cj.1, 0, t) | .inr (.inl t) => (sndCell cj.1 t, 0, cj.1) | .inr (.inr s) => (rcvCell cj.1 s, 0, s)
theorem tokOf_injective : Function.Injective tokOf := by
  rintro ⟨c, j⟩ ⟨c', j'⟩ h
  have hk : ∀ k k' : CK, kcell (c, k) = kcell (c', k') → c = c' ∧ k = k' := fun k k' h => Prod.mk.inj (kcell_injective h)
  rcases j with t | t | t <;> rcases j' with t' | t' | t'
  · obtain ⟨h1, -⟩ := hk (.inl ()) (.inl ()) (congrArg Prod.fst h)
    have h2 : t = t' := congrArg (fun x => x.2.2) h
    rw [h1, h2]
  · exact absurd (hk (.inl ()) (.inr (.inl t')) (congrArg Prod.fst h)).2 (by simp)
  · exact absurd (hk (.inl ()) (.inr (.inr t')) (congrArg Prod.fst h)).2 (by simp)
  · exact absurd (hk (.inr (.inl t)) (.inl ()) (congrArg Prod.fst h)).2 (by simp)
  · obtain ⟨h1, h2⟩ := hk (.inr (.inl t)) (.inr (.inl t')) (congrArg Prod.fst h)
    rw [h1, Sum.inl.inj (Sum.inr.inj h2)]
  · exact absurd (hk (.inr (.inl t)) (.inr (.inr t')) (congrArg Prod.fst h)).2 (by simp)
  · exact absurd (hk (.inr (.inr t)) (.inl ()) (congrArg Prod.fst h)).2 (by simp)
  · exact absurd (hk (.inr (.inr t)) (.inr (.inl t')) (congrArg Prod.fst h)).2 (by simp)
  · obtain ⟨h1, h2⟩ := hk (.inr (.inr t)) (.inr (.inr t')) (congrArg Prod.fst h)
    rw [h1, Sum.inr.inj (Sum.inr.inj h2)]
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun t : Dev nD => dutyTok ER (barCell c) 0 t) ∗ (bigSep Finset.univ fun t : Dev nD => dutyTok ER (sndCell c t) 0 c)
    ∗ (bigSep Finset.univ fun s : Dev nD => dutyTok ER (rcvCell c s) 0 s))

/-- What the launch element deals device `c`. -/
def G (c : Dev nD) : sProp 𝕄 :=
  iprop((bigSep Finset.univ fun k : CK => roundState ER (sched m ρ) (kcell (c, k)) 0)
    ∗ ((bigSep Finset.univ fun k : CK => atPos ER (kcell (c, k)) 0 ∅ 0) ∗ (bigSep Finset.univ fun k : CK => reached ER (kcell (c, k)) 0)) ∗ toks c)

/-- Every cell's invariant, and that it is at round 0. -/
def marks (K : Dev nD × CK → ℕ) : sProp 𝕄 :=
  iprop((bigSep Finset.univ fun ck : Dev nD × CK => cellInv ER (sched m ρ) (K ck) (kcell ck))
    ∗ (bigSep Finset.univ fun ck : Dev nD × CK => reached ER (kcell ck) 0))

instance marks_persistent (K : Dev nD × CK → ℕ) : BI.Persistent (marks m ρ K) := by unfold marks; infer_instance

/-- What the global step makes of it. -/
def G' (c : Dev nD) : sProp 𝕄 := iprop((∃ K, marks m ρ K) ∗ lin c)

omit [FloatOps F] in
theorem bigSep_CK (Φ : CK → sProp 𝕄) : bigSep Finset.univ Φ
    = iprop(Φ (.inl ()) ∗ (bigSep Finset.univ fun t : Dev nD => Φ (.inr (.inl t))) ∗ bigSep Finset.univ fun s : Dev nD => Φ (.inr (.inr s))) := by
  rw [bigSep_univ_sum, bigSep_univ_sum, Finset.univ_unique, bigSep_singleton]; rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (sched m ρ) exCells exToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; rw [bigSep_sep', bigSep_sep', bigSep_sep']
  isplitl [Hst']; · iexact Hst'
  isplitl [Hat' Hr']
  · isplitl [Hat'] <;> iassumption
  iexact Htok'

omit [FloatOps F] in
/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun t : Dev nD => semVal (sndCell c t) 0) ∗ bigSep Finset.univ fun s : Dev nD => semVal (rcvCell c s) 0) := by
  unfold Pipeline.ownSems0; rw [bigSep_univ_sum]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ ((bigSep Finset.univ fun k : CK => atPos ER (kcell (c, k)) 0 ∅ 0) ∗ (bigSep Finset.univ fun k : CK => reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks (c : Dev nD) : sProp 𝕄 :=
  iprop((bigSep (Finset.univ.erase c) fun t : Dev nD => dutyTok ER (barCell t) 0 c)
    ∗ (bigSep (Finset.univ.erase c) fun t : Dev nD => dutyTok ER (sndCell c t) 0 c) ∗ bigSep (Finset.univ.erase c) fun t : Dev nD => dutyTok ER (rcvCell t c) 0 c)

omit [FloatOps F] in
/-- The tokens dealt to the payers: a device's own are dropped, the others change sides. -/
theorem toks_around : (bigSep Finset.univ fun c : Dev nD => (toks c : sProp 𝕄)) ⊢ bigSep Finset.univ fun c : Dev nD => payToks c := by
  refine BIBase.Entails.trans (Q := bigSep Finset.univ fun c : Dev nD => iprop((bigSep (Finset.univ.erase c) fun t : Dev nD => dutyTok ER (barCell c) 0 t)
    ∗ (bigSep (Finset.univ.erase c) fun t : Dev nD => dutyTok ER (sndCell c t) 0 c) ∗ (bigSep (Finset.univ.erase c) fun s : Dev nD => dutyTok ER (rcvCell c s) 0 s)))
    (bigSep_mono fun c _ => ?_) (Entails.of_eq ?_)
  · unfold toks
    exact BI.sep_mono (bigSep_subset (Finset.erase_subset _ _)) (BI.sep_mono (bigSep_subset (Finset.erase_subset _ _)) (bigSep_subset (Finset.erase_subset _ _)))
  · unfold payToks
    rw [bigSep_sep', bigSep_sep', bigSep_sep', bigSep_sep',
      bigSep_erase_comm (fun c t : Dev nD => (dutyTok ER (barCell c) 0 t : sProp 𝕄)),
      bigSep_erase_comm (fun c s : Dev nD => (dutyTok ER (rcvCell c s) 0 s : sProp 𝕄))]

omit [FloatOps F] in
theorem lin_intro (c : Dev nD) : iprop((bigSep Finset.univ fun k : CK => atPos ER (kcell (c, k)) 0 ∅ 0) ∗ payToks c) ⊢ (lin c : sProp 𝕄) := by
  unfold lin payToks
  rw [bigSep_CK, show (bigSep (Finset.univ.erase c) fun t : Dev nD => iprop(dutyTok ER (sndCell c t) 0 c ∗ dutyTok ER (rcvCell t c) 0 c) : sProp 𝕄)
    = iprop((bigSep (Finset.univ.erase c) fun t : Dev nD => dutyTok ER (sndCell c t) 0 c) ∗ bigSep (Finset.univ.erase c) fun t : Dev nD => dutyTok ER (rcvCell t c) 0 c) from bigSep_sep' _ _ _]
  iintro ⟨⟨H1, H2, H3⟩, H4, H5, H6⟩
  isplitl [H1]; · iexact H1
  isplitl [H2]; · iexact H2
  isplitl [H3]; · iexact H3
  isplitl [H4]; · iexact H4
  isplitl [H5] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ ((bigSep Finset.univ fun k : CK => atPos ER (kcell (c, k)) 0 ∅ 0) ∗ (bigSep Finset.univ fun k : CK => reached ER (kcell (c, k)) 0)) ∗ toks c) : sProp 𝕄)
      ⊢ bigSep Finset.univ (G' m ρ) := by
  rw [bigSep_sep', bigSep_sep', bigSep_sep', ← bigSep_univ_prod (fun ck : Dev nD × CK => iprop(∃ κ : ℕ, cellInv ER (sched m ρ) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := marks m ρ K) (Φ := lin) fun c _ => show iprop(marks m ρ K ∗ lin c) ⊢ G' m ρ c from by
    unfold G'
    iintro ⟨H1, H2⟩
    isplitl [H1]; · iexists K; iexact H1
    iexact H2)
  isplitr
  · unfold marks; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => lin_intro c))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem sum_tally_at {A : Finset (Dev nD)} {f : Dev nD → GSem nD τ sig} (hf : Function.Injective f) (n : ℕ) (t : Dev nD) :
    (∑ u ∈ A, tallyAt (f u) () n : CellTallies nD τ sig Unit) (f t) () = if t ∈ A then n else 0 := by
  rw [Finset.sum_apply, Finsupp.finset_sum_apply, ← Finset.sum_ite_eq A t (fun _ => n)]
  refine Finset.sum_congr rfl fun u _ => ?_
  rw [tallyAt_apply]
  by_cases h : t = u
  · subst h; rw [if_pos ⟨rfl, rfl⟩, if_pos rfl]
  · rw [if_neg fun h' => h (hf h'.1), if_neg h]

theorem sum_tally_ne {A : Finset (Dev nD)} {f : Dev nD → GSem nD τ sig} (n : ℕ) (g : GSem nD τ sig) (hg : ∀ u, f u ≠ g) :
    (∑ u ∈ A, tallyAt (f u) () n : CellTallies nD τ sig Unit) g () = 0 := by
  by_contra h
  obtain ⟨t, -, ht⟩ := sum_tally_pos (Nat.pos_of_ne_zero h)
  exact hg t ht.symm

theorem barCell_injective : Function.Injective (barCell : Dev nD → GSem nD τ sig) := fun a b h =>
  (Prod.mk.inj (kcell_injective (a₁ := (a, .inl ())) (a₂ := (b, .inl ())) h)).1
theorem rcvCell_injective (s : Dev nD) : Function.Injective (fun c : Dev nD => rcvCell c s) := fun a b h =>
  (Prod.mk.inj (kcell_injective (a₁ := (a, .inr (.inr s))) (a₂ := (b, .inr (.inr s))) h)).1

/-- Every other device owes a device's barrier one unit. -/
theorem owed_bar (d c : Dev nD) : O₀ d (barCell c) () = if d = c then 0 else 1 := by
  unfold O₀ oweRcv oweBar
  rw [Pi.add_apply, Finsupp.add_apply, sum_tally_at barCell_injective, sum_tally_ne, Nat.zero_add]
  · by_cases h : d = c
    · subst h; rw [if_neg (Finset.notMem_erase _ _), if_pos rfl]
    · rw [if_pos (Finset.mem_erase.mpr ⟨Ne.symm h, Finset.mem_univ _⟩), if_neg h]
  · intro u h
    have := (Prod.mk.inj (kcell_injective (a₁ := (u, .inr (.inr d))) (a₂ := (c, .inl ())) h)).2
    cases this

/-- Device `s` owes the receive cell for `s` of every other device one array. -/
theorem owed_rcv (d c s : Dev nD) (hs : s ≠ c) : O₀ d (rcvCell c s) () = if d = s then N else 0 := by
  unfold O₀ oweRcv oweBar
  rw [Pi.add_apply, Finsupp.add_apply, sum_tally_ne (f := barCell), Nat.add_zero]
  · by_cases h : d = s
    · subst h
      rw [sum_tally_at (f := fun t => rcvCell t d) (rcvCell_injective d) N c, if_pos (Finset.mem_erase.mpr ⟨Ne.symm hs, Finset.mem_univ _⟩), if_pos rfl]
    · rw [if_neg h]
      refine sum_tally_ne _ _ fun u h' => h ?_
      have := (Prod.mk.inj (kcell_injective (a₁ := (u, .inr (.inr d))) (a₂ := (c, .inr (.inr s))) h')).2
      exact Sum.inr.inj (Sum.inr.inj this)
  · intro u h
    have := (Prod.mk.inj (kcell_injective (a₁ := (u, .inl ())) (a₂ := (c, .inr (.inr s))) h)).2
    cases this

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_rcv (c s : Dev nD) (hs : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s hs, Finset.sum_ite_eq' Finset.univ s fun _ => N,
    if_pos (Finset.mem_univ _)]

omit [FloatOps F] in
theorem creds_intro (c : Dev nD) : (Pipeline.launchCred O₀ c : sProp 𝕄) ⊢ creds c := by
  unfold Pipeline.launchCred creds
  refine BIBase.Entails.trans (bigSep_subset (Finset.subset_univ (Finset.univ.map ⟨csem, csem_injective⟩))) ?_
  rw [bigSep_map, bigSep_CK]
  have h1 : (cred (tallyOn (barCell c) (launchCredit (Pipeline.owing O₀) 0 (barCell c))) : sProp 𝕄) ⊢ cred (tallyAt (barCell c) () 7) :=
    Entails.of_eq (congrArg cred (launch_bar c))
  have h2 : (bigSep Finset.univ fun s : Dev nD => cred (tallyOn (rcvCell c s) (launchCredit (Pipeline.owing O₀) 0 (rcvCell c s))))
      ⊢ (bigSep (Finset.univ.erase c) fun s : Dev nD => cred (tallyAt (rcvCell c s) () N) : sProp 𝕄) :=
    (bigSep_subset (Finset.erase_subset _ _)).trans (Entails.of_eq (bigSep_congr fun s hs => congrArg cred (launch_rcv c s (Finset.ne_of_mem_erase hs))))
  iintro ⟨H1, -, H2⟩
  isplitl [H1]; · iapply h1; iexact H1
  iapply h2; iexact H2

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' marks records
  iintro ⟨-, Hlev, Hcr, -, ⟨%K, H1, H2⟩, HG⟩
  ihave Hc := (creds_intro (F := F) c) $$ Hcr
  imodintro
  isplitl
  · isplitl [Hlev H1 H2]
    · iexists K
      isplitl [H1]; · iexact H1
      isplitl [H2] <;> iassumption
    isplitl [HG] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr, Hg⟩
  isplitl [Hs]; · iexact Hs
  isplitl [Hr] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexact Hr

theorem lv_stage (c : Dev nD) (w : Fin cfg0.W) (s : Fin (cfg0.win w).nbuf) (u : Unit) : lv ((c : Thread nD τ), .dma ((cfg0.win w).sem s)) u = 0 := by
  unfold lv
  rcases h : cls (SemLoc.dma ((cfg0.win w).sem s)) with _ | (_ | k)
  · rfl
  · cases cls_eq_some h
  · exact absurd (cls_eq_some h).symm (ownSemFacts.disj k w s)

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_stage c w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the program on the eight
    devices terminates, with each window's array at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK
-- ==== Proof.Frames.lean ====
/-
# What a run leaves in the two arrays, and the kernel's frames
-/
module

public import proofs.«01_k».proof.Proof.Launch
public import proofs.«01_k».proof.Defs
public import proofs.«01_k».proof.Proof.Gen.Kernel

@[expose] public section

noncomputable section

namespace Cert.TopK

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The result window holds what the body left in its buffer: the kernel's result value. -/
theorem finalA_o (c : Dev nD) :
    (win0_1.blk (0 : Fin 1)).view.read (Elt F) (finalA m ρ c (1 : Fin 2)) = outV m ρ := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- Every device's result buffer ends at the result value. -/
theorem finalA_out (c : Dev nD) : finalA m ρ c (1 : Fin 2) = outV m ρ := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans (finalA_o m ρ c)

/-- What the kernel reads through its argument window is the device's argument buffer. -/
theorem xstg_eq (c : Dev nD) : xstg m ρ c = m ((c.tc : Thread nD τ).loc main_arg0) := by
  have hz0 : (fun a => (win0_0.index (0 : Fin 1)) a * main_arg0.ty.shape.size a) = fun _ => 0 :=
    funext fun a => by fin_cases a <;> decide
  exact Memref.read_access_unit_zero (Elt F) main_arg0 hz0 (fun a => by fin_cases a <;> decide) _

/-- The run in closed form: every device's result buffer holds the result value and its argument is unchanged. -/
theorem run_closed : θ_run defs (onTc (τ := τ) (main (F := F))) (s₀ m ρ)
    (fun r => ∀ c : Dev nD, r.2.mem ((c.tc : Thread nD τ).loc main_v1) = outV m ρ ∧
      r.2.mem ((c.tc : Thread nD τ).loc main_arg0) = m ((c.tc : Thread nD τ).loc main_arg0)) :=
  (θ_run defs _ _).mono
    (fun _ h c => ⟨(h.1 c (1 : Fin 2)).trans (finalA_out m ρ c), (h.1 c (0 : Fin 2)).trans (finalA_x m ρ c)⟩)
    (run_main (F := F) m ρ)

/-- The kernel's idealization runs, keeps its arguments and ends with every counter at zero. -/
theorem frame_kernelIdeal : Cert.quiescent_KernelIdeal := fun m ρ _ =>
  (θ_run defs _ _).mono (fun _ h => ⟨fun c => (h.1 c (0 : Fin 2)).trans (finalA_x m ρ c), h.2⟩)
    (run_main (F := Ideal) m ρ)

/-- The body table of the kernel is its idealization's: the two are one text. -/
theorem defs₀_eq : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  obtain rfl : l = 0 := by omega
  obtain ⟨t, s⟩ := a
  rfl

/-- So is its table of pipelines. -/
theorem defs_eq : Cert.Kernel.defs (F := Bits) = Cert.KernelIdeal.defs (F := Bits) := by
  unfold Cert.Kernel.defs Cert.KernelIdeal.defs
  exact congrArg (Pipeline.defs _) defs₀_eq

/-- The kernel itself, on bits, does the same: its text is the idealization's. -/
theorem frame_kernel : Cert.quiescent_Kernel := by
  intro m ρ _
  rw [defs_eq]
  exact (θ_run defs _ _).mono (fun _ h => ⟨fun c => (h.1 c (0 : Fin 2)).trans (finalA_x m ρ c), h.2⟩)
    (run_main (F := Bits) m ρ)

end Cert.TopK

end
-- ==== Proof.Ranks.lean ====
/-
# The j-th largest distinct value of a finite set

`pk S j` is the element of `S` with exactly `j` elements above it, `⊥` where there is none. Removing the maximum shifts it
by one; it depends only on the elements above `⊥` whose rank is small; and a descending list without repetition lists it.
-/
module

public import Mathlib.Data.EReal.Basic
public import Mathlib.Data.Finset.Lattice.Fold
public import Mathlib.Data.Fintype.Lattice
public import Mathlib.Data.Finset.Max
public import Mathlib.Data.Fintype.Fin

@[expose] public section

namespace Cert.TopK

open Finset

noncomputable section

/-- How many elements of `S` lie above `x`. -/
def rk (S : Finset EReal) (x : EReal) : ℕ := (S.filter (x < ·)).card

/-- The largest element of `S` with at least `j` elements above it. -/
def pk (S : Finset EReal) (j : ℕ) : EReal := (S.filter (j ≤ rk S ·)).sup id

theorem rk_anti (S : Finset EReal) {x y : EReal} (h : x ≤ y) : rk S y ≤ rk S x :=
  card_le_card fun _ ht => mem_filter.2 ⟨(mem_filter.1 ht).1, h.trans_lt (mem_filter.1 ht).2⟩

/-- A larger element has strictly fewer elements above it. -/
theorem rk_lt {S : Finset EReal} {x y : EReal} (hy : y ∈ S) (h : x < y) : rk S y < rk S x := by
  refine card_lt_card ⟨fun _ ht => mem_filter.2 ⟨(mem_filter.1 ht).1, h.trans (mem_filter.1 ht).2⟩, fun hs => ?_⟩
  exact lt_irrefl y (mem_filter.1 (hs (mem_filter.2 ⟨hy, h⟩))).2

/-- An element of rank `j` is the `j`-th. -/
theorem pk_of_rk {S : Finset EReal} {x : EReal} (hx : x ∈ S) : pk S (rk S x) = x := by
  refine le_antisymm (Finset.sup_le fun y hy => ?_) (Finset.le_sup (f := id) (mem_filter.2 ⟨hx, le_rfl⟩))
  obtain ⟨hyS, hy⟩ := mem_filter.1 hy
  exact not_lt.1 fun h => absurd (rk_lt hyS h) (not_lt.2 hy)

theorem le_pk {S : Finset EReal} {x : EReal} {j : ℕ} (hx : x ∈ S) (h : j ≤ rk S x) : x ≤ pk S j :=
  Finset.le_sup (f := id) (mem_filter.2 ⟨hx, h⟩)

theorem pk_zero (S : Finset EReal) : pk S 0 = S.sup id := by
  unfold pk
  rw [filter_true_of_mem fun _ _ => Nat.zero_le _]

theorem sup_mem {S : Finset EReal} (h : S.sup id ≠ ⊥) : S.sup id ∈ S := by
  rcases S.eq_empty_or_nonempty with rfl | hne
  · exact absurd sup_empty h
  · obtain ⟨x, hx, he⟩ := exists_mem_eq_sup S hne id
    rw [he]; exact hx

/-- Below the maximum, taking the maximum away lowers the rank by one. -/
theorem rk_erase {S : Finset EReal} {x : EReal} (hx : x < S.sup id) : rk S x = rk (S.erase (S.sup id)) x + 1 := by
  have hm : S.sup id ∈ S := sup_mem (ne_bot_of_gt hx)
  unfold rk
  rw [← filter_erase_of_mem hm hx]
where
  filter_erase_of_mem {S : Finset EReal} {x m : EReal} (hm : m ∈ S) (hx : x < m) :
      ((S.erase m).filter (x < ·)).card + 1 = (S.filter (x < ·)).card := by
    rw [filter_erase, card_erase_add_one (mem_filter.2 ⟨hm, hx⟩)]

/-- The maximum has nothing above it. -/
theorem rk_sup (S : Finset EReal) : rk S (S.sup id) = 0 := by
  unfold rk
  rw [card_eq_zero, filter_eq_empty_iff]
  exact fun y hy => not_lt.2 (Finset.le_sup (f := id) hy)

/-- An element other than the maximum is below it. -/
theorem below {S : Finset EReal} {x : EReal} (hx : x ∈ S) (hne : x ≠ S.sup id) : x < S.sup id :=
  lt_of_le_of_ne (Finset.le_sup (f := id) hx) hne

/-- Taking the maximum away shifts the list by one. -/
theorem pk_erase (S : Finset EReal) (j : ℕ) : pk (S.erase (S.sup id)) j = pk S (j + 1) := by
  unfold pk
  congr 1
  ext x
  simp only [mem_filter, mem_erase]
  constructor
  · rintro ⟨⟨hne, hx⟩, hj⟩
    refine ⟨hx, ?_⟩
    rw [rk_erase (below hx hne)]
    omega
  · rintro ⟨hx, hj⟩
    have hne : x ≠ S.sup id := by
      rintro rfl
      rw [rk_sup] at hj
      omega
    refine ⟨⟨hne, hx⟩, ?_⟩
    rw [rk_erase (below hx hne)] at hj
    omega

/-- Where the `j`-th is not `⊥` it is an element, of rank `j`. -/
theorem pk_spec {S : Finset EReal} {j : ℕ} (h : pk S j ≠ ⊥) : pk S j ∈ S ∧ rk S (pk S j) = j := by
  induction j generalizing S with
  | zero =>
    rw [pk_zero] at h ⊢
    exact ⟨sup_mem h, rk_sup S⟩
  | succ j ih =>
    rw [← pk_erase] at h ⊢
    obtain ⟨hm, hr⟩ := ih h
    obtain ⟨hne, hS⟩ := mem_erase.1 hm
    exact ⟨hS, by rw [rk_erase (below hS hne), hr]⟩

/-- Sets that agree, above `⊥`, on the elements with fewer than `n` above them have the same first `n`. -/
theorem pk_congr {S T : Finset EReal} {n j : ℕ} (h1 : ∀ t ∈ T, t ≠ ⊥ → t ∈ S)
    (h2 : ∀ x ∈ S, x ≠ ⊥ → rk S x < n → x ∈ T) (hj : j < n) : pk T j = pk S j := by
  have hle : ∀ y, rk T y ≤ rk S y := fun y => card_le_card fun t ht =>
    mem_filter.2 ⟨h1 t (mem_filter.1 ht).1 (ne_bot_of_gt (mem_filter.1 ht).2), (mem_filter.1 ht).2⟩
  by_cases hS : pk S j = ⊥
  · rw [hS]
    by_contra hT
    obtain ⟨hm, hr⟩ := pk_spec hT
    have := le_pk (h1 _ hm hT) (hr.symm.le.trans (hle _))
    rw [hS] at this
    exact hT (le_bot_iff.1 this)
  · obtain ⟨hm, hr⟩ := pk_spec hS
    have hrT : rk T (pk S j) = j := by
      refine le_antisymm ((hle _).trans hr.le) (hr.symm.le.trans (card_le_card fun t ht => ?_))
      obtain ⟨htS, hlt⟩ := mem_filter.1 ht
      exact mem_filter.2 ⟨h2 t htS (ne_bot_of_gt hlt) ((rk_lt htS hlt).trans (hr.le.trans_lt hj)), hlt⟩
    have := pk_of_rk (h2 _ hm hS (hr.le.trans_lt hj))
    rwa [hrT] at this

/-! ## Removing maxima from a family -/

variable {ι : Type} [Fintype ι]

/-- The family with every entry at the maximum put to `⊥`. -/
def peel (f : ι → EReal) : ι → EReal := fun k => if f k = univ.sup f then ⊥ else f k

/-- The values of a family. -/
def img (f : ι → EReal) : Finset EReal := univ.image f

theorem mem_img {f : ι → EReal} {x : EReal} : x ∈ img f ↔ ∃ k, f k = x := by simp [img]

theorem img_sup (f : ι → EReal) : (img f).sup id = univ.sup f := by
  unfold img
  rw [sup_image]
  rfl

/-- Putting the maxima to `⊥` shifts the list by one. -/
theorem pk_peel (f : ι → EReal) (j : ℕ) : pk (img (peel f)) j = pk (img f) (j + 1) := by
  rw [← pk_erase, img_sup]
  refine pk_congr (n := j + 1) ?_ ?_ (Nat.lt_succ_self j)
  · intro t ht hb
    obtain ⟨k, rfl⟩ := mem_img.1 ht
    unfold peel at hb ⊢
    split at hb
    · exact absurd rfl hb
    · rename_i h
      rw [if_neg h]
      exact mem_erase.2 ⟨h, mem_img.2 ⟨k, rfl⟩⟩
  · intro x hx _ _
    obtain ⟨hne, hm⟩ := mem_erase.1 hx
    obtain ⟨k, rfl⟩ := mem_img.1 hm
    exact mem_img.2 ⟨k, if_neg hne⟩

/-- After `j` removals the maximum is the `j`-th largest distinct value. -/
theorem sup_peel (f : ι → EReal) (j : ℕ) : univ.sup (peel^[j] f) = pk (img f) j := by
  induction j generalizing f with
  | zero => rw [pk_zero, img_sup]; rfl
  | succ j ih => rw [Function.iterate_succ_apply, ih, pk_peel]

/-! ## Descending lists -/

/-- In a descending list without repetition up to `j`, entry `j` is the `j`-th. -/
theorem pk_of_strict {n : ℕ} (w : Fin n → EReal) (hw : Antitone w) (j : Fin n) (hs : ∀ i, i < j → w j < w i)
    (hd : ∀ i k, i < k → k < j → w k < w i) : pk (img w) j = w j := by
  have hr : rk (img w) (w j) = j := by
    have he : (img w).filter (w j < ·) = (univ.filter (· < j)).image w := by
      ext x
      simp only [mem_filter, mem_img, mem_image, mem_univ, true_and]
      constructor
      · rintro ⟨⟨k, rfl⟩, hk⟩
        exact ⟨k, not_le.1 fun h => absurd (hw h) (not_le.2 hk), rfl⟩
      · rintro ⟨k, hk, rfl⟩
        exact ⟨⟨k, rfl⟩, hs k hk⟩
    unfold rk
    rw [he, card_image_of_injOn]
    · exact (Fin.card_filter_val_lt (n := n) (m := j)).trans (min_eq_right j.isLt.le)
    · intro a ha b hb hab
      replace ha : a < j := (mem_filter.1 ha).2
      replace hb : b < j := (mem_filter.1 hb).2
      rcases lt_trichotomy a b with h | h | h
      · exact absurd hab (hd a b h hb).ne'
      · exact h
      · exact absurd hab (hd b a h ha).ne
  have := pk_of_rk (S := img w) (mem_img.2 ⟨j, rfl⟩)
  rwa [hr] at this

/-- In a descending list whose entries above `⊥` occur once, every entry is the one of its place. -/
theorem pk_of_once {n : ℕ} (w : Fin n → EReal) (hw : Antitone w) (ho : ∀ i k, w i = w k → w i ≠ ⊥ → i = k) (j : Fin n) :
    pk (img w) j = w j := by
  have key : ∀ j, w j ≠ ⊥ → pk (img w) j = w j := by
    intro j hj
    have hlt : ∀ i k : Fin n, i < k → k ≤ j → w k < w i := fun i k hik hk =>
      lt_of_le_of_ne (hw hik.le) fun h => hik.ne' (ho k i h fun hb => hj (le_bot_iff.1 (hb ▸ hw hk)))
    exact pk_of_strict w hw j (fun i hi => hlt i j hi le_rfl) fun i k hik hk => hlt i k hik hk.le
  by_cases hj : w j = ⊥
  · rw [hj]
    by_contra hb
    obtain ⟨hm, hr⟩ := pk_spec hb
    obtain ⟨i, hi⟩ := mem_img.1 hm
    have hib : w i ≠ ⊥ := hi ▸ hb
    have h1 := key i hib
    have h2 : rk (img w) (pk (img w) i) = i := (pk_spec (h1 ▸ hib)).2
    rw [h1, hi, hr] at h2
    have : i = j := Fin.ext h2.symm
    exact hib (this ▸ hj)
  · exact key j hj

end

end Cert.TopK
-- ==== Proof.Rounds.lean ====
/-
# What the kernel's rounds of maximum and removal compute, over the extended reals

One round takes each row's maximum and puts `⊥` wherever the row equals it. Eight rounds leave, in column `j`, the row's
`j`-th largest distinct value: first of a device's own 256 columns, then of the eight devices' candidates.
-/
module

public import proofs.«01_k».proof.Proof.Ranks
public import proofs.«01_k».proof.Proof.Protocol
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.TopK

open Cert.KernelIdeal Cert.KernelIdeal.Gen

open Idealize.ShloMosaic
open Idealize.ShloMosaic.TcCoe
open Idealize.ShloMosaic.ValueIdx (ix1 ix2 ix3)

/-- Row `r` of a matrix. -/
def row {n w : ℕ} (v : (⟨2, ![n, w]⟩ : Shape).Idx → EReal) (r : Fin n) : Fin w → EReal := fun k => v (ix2 r k)

/-- A row maximum taken from `⊥` is the row's supremum. -/
theorem rowMax_apply {w : ℕ} {φ : FTy} (v : FVec Ideal ⟨2, ![256, w]⟩ φ) (b : BitVec φ.bits) (hb : Ideal.ofBits φ b = ⊥)
    (h : (⟨2, ![256, w]⟩ : Shape).Reduces [1] S256) (hφ : FKind.Formats φ) (hacc : b = FKind.maximumf.neutral φ hφ)
    (hs : S256.ShapeCasts S256x1) (r : Fin 256) (u : Fin 1) :
    shapeCast S256x1 (multiReduction .maximumf [1] S256 v b h hφ hacc) hs (ix2 r u) = Finset.univ.sup (row v r) := by
  rw [ValueIdx.shapeCast_a_a1_apply, Ideal.multiReduction_maximumf_single v b h hφ hacc]
  rw [show (FloatOps.ofBits φ b : Ideal φ) = (⊥ : EReal) from hb]
  refine Finset.fold_congr (f := v ∘ h.lift (ix1 r)) (g := row v r) fun k _ => congrArg v ?_
  funext a
  match a with
  | ⟨0, _⟩ => rfl
  | ⟨1, _⟩ => rfl

/-- Putting `⊥` where a row equals its maximum. -/
theorem remove_apply {w : ℕ} {φ : FTy} (v : FVec Ideal ⟨2, ![256, w]⟩ φ) (b : BitVec φ.bits) (hb : Ideal.ofBits φ b = ⊥)
    (mx : FVec Ideal S256x1 φ) (hB : S256x1.Broadcasts ⟨2, ![256, w]⟩) (r : Fin 256)
    (hm : mx (ix2 r 0) = Finset.univ.sup (row v r)) :
    row (select (cmpf .oeq v (broadcastTo ⟨2, ![256, w]⟩ mx hB)) (broadcast ⟨2, ![256, w]⟩ (Scalar.ofBits φ b : Ideal φ)) v) r
      = peel (row v r) := by
  funext k
  have hbr : broadcastTo ⟨2, ![256, w]⟩ mx hB (ix2 r k) = mx (ix2 r 0) := by
    refine broadcastTo_apply mx hB (ix2 r k) (ix2 r 0) fun ax => ?_
    match ax with
    | ⟨0, _⟩ => rfl
    | ⟨1, _⟩ => rfl
  show Scalar.select (Ideal.cmp .oeq (v (ix2 r k)) (broadcastTo ⟨2, ![256, w]⟩ mx hB (ix2 r k))) (Ideal.ofBits φ b) (v (ix2 r k)) = _
  rw [hbr, hm, hb]
  unfold peel
  show Scalar.select (BitVec.ofBool (decide (row v r k = Finset.univ.sup (row v r)))) ⊥ (row v r k) = _
  by_cases e : row v r k = Finset.univ.sup (row v r)
  · rw [if_pos e, decide_eq_true e]; rfl
  · rw [if_neg e, decide_eq_false e]; rfl

theorem ofBits_bf16 : Ideal.ofBits .bf16 0xFF80#16 = ⊥ := by simp [Ideal.ofBits, Ideal.ieee]
theorem ofBits_f32 : Ideal.ofBits .f32 0xFF800000#32 = ⊥ := by simp [Ideal.ofBits, Ideal.ieee]

/-- One round on a device's columns: the row maxima. -/
def mxB (v : FVec Ideal S256x256 .bf16) : FVec Ideal S256x1 .bf16 :=
  shapeCast S256x1 (multiReduction .maximumf [1] S256 v 0xFF80#16 reduces_S256x256_S256 (.inr rfl) rfl) shapeCasts_S256_S256x1

/-- One round on a device's columns: what remains. -/
def rmB (v : FVec Ideal S256x256 .bf16) : FVec Ideal S256x256 .bf16 :=
  select (cmpf .oeq v (broadcastTo S256x256 (mxB v) broadcasts_S256x1_S256x256))
    (broadcast S256x256 (Scalar.ofBits .bf16 0xFF80#16 : Ideal .bf16)) v

/-- One round on the gathered candidates: the row maxima. -/
def mxG (v : FVec Ideal S256x64 .f32) : FVec Ideal S256x1 .f32 :=
  shapeCast S256x1 (multiReduction .maximumf [1] S256 v 0xFF800000#32 reduces_S256x64_S256 (.inl rfl) rfl) shapeCasts_S256_S256x1

/-- One round on the gathered candidates: what remains. -/
def rmG (v : FVec Ideal S256x64 .f32) : FVec Ideal S256x64 .f32 :=
  select (cmpf .oeq v (broadcastTo S256x64 (mxG v) broadcasts_S256x1_S256x64))
    (broadcast S256x64 (Scalar.ofBits .f32 0xFF800000#32 : Ideal .f32)) v

/-- After `n` rounds, the maxima of the remaining columns are the `n`-th largest distinct values. -/
theorem mxB_apply (v : FVec Ideal S256x256 .bf16) (n : ℕ) (r : Fin 256) (u : Fin 1) :
    mxB (rmB^[n] v) (ix2 r u) = pk (img (row v r)) n := by
  have h : ∀ n, row (rmB^[n] v) r = peel^[n] (row v r) := by
    intro n
    induction n with
    | zero => rfl
    | succ n ih =>
      rw [Function.iterate_succ_apply', Function.iterate_succ_apply', ← ih]
      exact remove_apply _ _ ofBits_bf16 _ _ r (rowMax_apply _ _ ofBits_bf16 _ _ _ _ r 0)
  rw [← sup_peel, ← h]
  exact rowMax_apply _ _ ofBits_bf16 _ _ _ _ r u

/-- After `n` rounds, the maxima of the remaining candidates are the `n`-th largest distinct values. -/
theorem mxG_apply (v : FVec Ideal S256x64 .f32) (n : ℕ) (r : Fin 256) (u : Fin 1) :
    mxG (rmG^[n] v) (ix2 r u) = pk (img (row v r)) n := by
  have h : ∀ n, row (rmG^[n] v) r = peel^[n] (row v r) := by
    intro n
    induction n with
    | zero => rfl
    | succ n ih =>
      rw [Function.iterate_succ_apply', Function.iterate_succ_apply', ← ih]
      exact remove_apply _ _ ofBits_f32 _ _ r (rowMax_apply _ _ ofBits_f32 _ _ _ _ r 0)
  rw [← sup_peel, ← h]
  exact rowMax_apply _ _ ofBits_f32 _ _ _ _ r u

/-- Eight columns side by side read, at column `j`, the `j`-th. -/
theorem columns_apply {α : Type} (a0 a1 a2 a3 a4 a5 a6 a7 : S256x1.Idx → α)
    (h : Shape.Concatenates [S256x1, S256x1, S256x1, S256x1, S256x1, S256x1, S256x1, S256x1] S256x8 1) (r : Fin 256) (j : Fin 8) :
    concatenate S256x8 1 [⟨S256x1, a0⟩, ⟨S256x1, a1⟩, ⟨S256x1, a2⟩, ⟨S256x1, a3⟩, ⟨S256x1, a4⟩, ⟨S256x1, a5⟩, ⟨S256x1, a6⟩, ⟨S256x1, a7⟩] h
      (ix2 r j) = (![a0, a1, a2, a3, a4, a5, a6, a7] : Fin 8 → S256x1.Idx → α) j (ix2 r 0) :=
  concatenate_ofFn_unit_apply (t := S256x8) (s₁ := S256x1) 1 ![a0, a1, a2, a3, a4, a5, a6, a7] h rfl rfl (ix2 r j) j rfl (ix2 r 0) fun b hb => by
    match b with
    | ⟨0, _⟩ => rfl
    | ⟨1, _⟩ => exact absurd rfl hb

variable (m : (ℓ : Loc nD τ sig) → Buf (Elt Ideal) ℓ) (ρ : Dev nD → PrngReg)

/-- Eight rounds written out are the iterates of one. -/
theorem rounds8 {α β : Type} (M : α → β) (R : α → α) (v : α) (j : Fin 8) :
    (![M v, M (R v), M (R (R v)), M (R (R (R v))), M (R (R (R (R v)))), M (R (R (R (R (R v))))), M (R (R (R (R (R (R v)))))),
      M (R (R (R (R (R (R (R v))))))) ] : Fin 8 → β) j = M (R^[j] v) := by
  match j with
  | 0 => rfl
  | 1 => rfl
  | 2 => rfl
  | 3 => rfl
  | 4 => rfl
  | 5 => rfl
  | 6 => rfl
  | 7 => rfl

/-- The first five rounds' maxima, as the kernel names them. -/
theorem rounds_eq (v : FVec Ideal S256x256 .bf16) :
    k0_pay10 v = mxB (k0_pay9 v) ∧ k0_pay12 v = mxB (rmB (k0_pay9 v)) ∧ k0_pay14 v = mxB (rmB (rmB (k0_pay9 v))) ∧
    k0_pay16 v = mxB (rmB (rmB (rmB (k0_pay9 v)))) ∧ k0_pay18 v = mxB (rmB (rmB (rmB (rmB (k0_pay9 v))))) ∧
    k0_pay19 v = rmB (rmB (rmB (rmB (rmB (k0_pay9 v))))) := by
  have h10 : k0_pay10 v = mxB (k0_pay9 v) := rfl
  have h11 : k0_pay11 v = rmB (k0_pay9 v) := rfl
  have h12 : k0_pay12 v = mxB (k0_pay11 v) := rfl
  have h13 : k0_pay13 v = rmB (k0_pay11 v) := rfl
  have h14 : k0_pay14 v = mxB (k0_pay13 v) := rfl
  have h15 : k0_pay15 v = rmB (k0_pay13 v) := rfl
  have h16 : k0_pay16 v = mxB (k0_pay15 v) := rfl
  have h17 : k0_pay17 v = rmB (k0_pay15 v) := rfl
  have h18 : k0_pay18 v = mxB (k0_pay17 v) := rfl
  have h19 : k0_pay19 v = rmB (k0_pay17 v) := rfl
  simp only [h10, h12, h14, h16, h18, h19, h17, h15, h13, h11, and_self]

/-- The last three rounds, and the eight columns side by side. -/
theorem pay20_eq (a b c d e : FVec Ideal S256x1 .bf16) (v : FVec Ideal S256x256 .bf16) :
    k0_pay20 a b c d e v = shapeCast S256x8 (extf .f32 (concatenate S256x8 1
      [⟨S256x1, a⟩, ⟨S256x1, b⟩, ⟨S256x1, c⟩, ⟨S256x1, d⟩, ⟨S256x1, e⟩, ⟨S256x1, mxB v⟩, ⟨S256x1, mxB (rmB v)⟩, ⟨S256x1, mxB (rmB (rmB v))⟩]
      concatenates_S256x1_S256x1_S256x1_S256x1_S256x1_S256x1_S256x1_S256x1_S256x8_d1) bitsLt_bf16_f32)
      shapeCasts_S256x8_S256x8 := rfl

/-- A device's candidates: the eight largest distinct values of each row of its columns. -/
theorem candV_apply (c : Dev nD) (r : Fin 256) (j : Fin 8) :
    candV m ρ c (ix2 r j) = pk (img (row (cols m ρ c) r)) j := by
  unfold candV
  rw [pay20_eq, shapeCast_apply _ _ (ix2 r j) (ix2 r j) rfl, ValueIdx.extf_apply, columns_apply]
  have e2 : k0_pay9 (cols m ρ c) = cols m ρ c := funext fun i => shapeCast_apply (cols m ρ c) shapeCasts_S256x256_S256x256 i i rfl
  obtain ⟨h0, h1, h2, h3, h4, h5⟩ := rounds_eq (cols m ρ c)
  rw [h0, h1, h2, h3, h4, h5, e2]
  rw [rounds8 mxB rmB]
  exact mxB_apply (cols m ρ c) j r 0

/-- The eight slots side by side. -/
def gathV : FVec Ideal S256x64 .f32 :=
  k0_pay21 (slotV m ρ 0) (slotV m ρ 1) (slotV m ρ 2) (slotV m ρ 3) (slotV m ρ 4) (slotV m ρ 5) (slotV m ρ 6) (slotV m ρ 7)

/-- The last six rounds, and the eight columns side by side. -/
theorem pay26_eq (a b : FVec Ideal S256x1 .f32) (v : FVec Ideal S256x64 .f32) (k : IVec S256x64 1) (w : FVec Ideal S256x64 .f32)
    (hw : w = select k (broadcast S256x64 (Scalar.ofBits .f32 0xFF800000#32 : Ideal .f32)) v) :
    k0_pay26 a v b k = concatenate S256x8 1
      [⟨S256x1, a⟩, ⟨S256x1, b⟩, ⟨S256x1, mxG w⟩, ⟨S256x1, mxG (rmG w)⟩, ⟨S256x1, mxG (rmG (rmG w))⟩, ⟨S256x1, mxG (rmG (rmG (rmG w)))⟩,
        ⟨S256x1, mxG (rmG (rmG (rmG (rmG w))))⟩, ⟨S256x1, mxG (rmG (rmG (rmG (rmG (rmG w)))))⟩]
      concatenates_S256x1_S256x1_S256x1_S256x1_S256x1_S256x1_S256x1_S256x1_S256x8_d1 := by
  subst hw; rfl

/-- The result: the eight largest distinct values of each row of the gathered candidates. -/
theorem outV_apply (r : Fin 256) (j : Fin 8) : outV m ρ (ix2 r j) = pk (img (row (gathV m ρ) r)) j := by
  unfold outV
  rw [pay26_eq _ _ _ _ _ rfl, columns_apply]
  refine Eq.trans ?_ (mxG_apply (gathV m ρ) j r 0)
  exact congrFun (rounds8 mxG rmG (gathV m ρ) j) (ix2 r 0)

/-- A slot as loaded holds its device's candidates. -/
theorem slotV_apply (s : Fin 8) (r : Fin 256) (i : Fin 8) : slotV m ρ s (ix3 0 r i) = candV m ρ s (ix2 r i) := by
  have e : slotV m ρ s (ix3 0 r i) = gath m ρ (ix3 s r i) := by
    refine congrArg (gath m ρ) (funext fun a => Fin.ext ?_)
    match a with
    | ⟨0, _⟩ => show s.val + 1 * 0 = s.val; omega
    | ⟨1, _⟩ => show 0 + 1 * r.val = r.val; omega
    | ⟨2, _⟩ => show 0 + 1 * i.val = i.val; omega
  exact e

/-- Column `8 s + i` of the gathered candidates is device `s`'s `i`-th candidate. -/
theorem gathV_apply (r : Fin 256) (k : Fin 64) (s i : Fin 8) (hs : k.val / 8 = s.val) (hi : i.val = k.val % 8) :
    gathV m ρ (ix2 r k) = candV m ρ s (ix2 r i) := by
  have e : gathV m ρ = concatenate S256x64 1
      (List.ofFn fun n : Fin 8 => (⟨S256x8, shapeCast S256x8 (slotV m ρ n) shapeCasts_S1x256x8_S256x8⟩ : (s : Shape) × (s.Idx → Ideal .f32)))
      concatenates_S256x8_S256x8_S256x8_S256x8_S256x8_S256x8_S256x8_S256x8_S256x64_d1 := rfl
  rw [e]
  refine (concatenate_ofFn_apply (t := S256x64) (s₁ := S256x8) 1 (fun n : Fin 8 => shapeCast S256x8 (slotV m ρ n) shapeCasts_S1x256x8_S256x8) _ rfl 8 rfl
    (ix2 r k) s hs (ix2 r i) hi fun b hb => ?_).trans ?_
  · match b with
    | ⟨0, _⟩ => rfl
    | ⟨1, _⟩ => exact absurd rfl hb
  · exact (ValueIdx.shapeCast_1ab_ab_apply _ _ r i).trans (slotV_apply m ρ s r i)

/-- The columns a device works on, within its block. -/
theorem cols_apply (c : Dev nD) (r k : Fin 256) (q : Fin 1024) (hq : q.val = 512 * (c.val / 4) + 256 * (c.val % 2) + k.val) :
    cols m ρ c (ix2 r k) = xstg m ρ c (ix2 r q) := by
  refine congrArg (xstg m ρ c) (funext fun a => Fin.ext ?_)
  match a with
  | ⟨0, _⟩ =>
    show k0_off1 c 0 + 1 * r.val = r.val
    rw [k0_off1_eq]; show 0 + 1 * r.val = r.val; omega
  | ⟨1, _⟩ =>
    show k0_off1 c 1 + 1 * k.val = q.val
    rw [k0_off1_eq, hq]; show 512 * (c.val / 4) + 256 * (c.val % 2) + 1 * k.val = _; omega

end Cert.TopK
-- ==== Proof.Whole.lean ====
/-
# The kernel's result in terms of the whole array

The eight devices' columns make up each row. A value among a row's eight largest distinct ones is among the eight largest
distinct of the device that holds it, so the merged candidates have the same eight largest as the row.
-/
module

public import proofs.«01_k».proof.Proof.Rounds
public import proofs.«01_k».proof.Proof.Frames
public import Idealize.ShloMosaic.Lib.Layout

@[expose] public section

noncomputable section

namespace Cert.TopK

open Cert.KernelIdeal Cert.KernelIdeal.Gen

open Idealize.ShloMosaic
open Idealize.ShloMosaic.TcCoe
open Idealize.ShloMosaic.ValueIdx (ix1 ix2 ix3)

/-- The eight largest of the merged firsts are the eight largest of the union: `T` gathers, for each part `P s`, its first
    `n` distinct values, and the parts make up `S`. -/
theorem pk_parts {ι : Type} {S T : Finset EReal} (P : ι → Finset EReal) {n j : ℕ} (hj : j < n)
    (hsub : ∀ s, ∀ x ∈ P s, x ∈ S) (hcov : ∀ x ∈ S, ∃ s, x ∈ P s)
    (hT : ∀ x, x ∈ T ↔ ∃ s, ∃ i < n, x = pk (P s) i) : pk T j = pk S j := by
  refine pk_congr (n := n) (fun t ht hb => ?_) (fun x hx _ hr => ?_) hj
  · obtain ⟨s, i, _, rfl⟩ := (hT t).1 ht
    exact hsub s _ (pk_spec hb).1
  · obtain ⟨s, hs⟩ := hcov x hx
    refine (hT x).2 ⟨s, rk (P s) x, lt_of_le_of_lt (Finset.card_le_card fun t ht => ?_) hr, (pk_of_rk hs).symm⟩
    exact Finset.mem_filter.2 ⟨hsub s t (Finset.mem_filter.1 ht).1, (Finset.mem_filter.1 ht).2⟩

variable (m : (ℓ : Loc nD τ sig) → Buf (Elt Ideal) ℓ) (ρ : Dev nD → PrngReg) (x : (⟨2, ![256, 2048]⟩ : Shape).Idx → EReal)

/-- Each device's argument is its block of columns of `x`. -/
def Cut : Prop := ∀ c : Dev nD, m ((c.tc : Thread nD τ).loc main_arg0) =
  Layout.blockN ⟨2, ![256, 1024]⟩ ⟨2, ![256, 2048]⟩ (Layout.meshBlock [2, 2, 2] ![[], [1]] c) x

/-- A device's column `k` is the whole array's. -/
theorem cols_whole (hx : Cut m x) (c : Dev nD) (r k : Fin 256) (q : Fin 2048)
    (hq : q.val = 1024 * (c.val / 2 % 2) + 512 * (c.val / 4) + 256 * (c.val % 2) + k.val) :
    cols m ρ c (ix2 r k) = x (ix2 r q) := by
  have hc : c.val < 8 := c.isLt
  have hk := k.isLt
  rw [cols_apply m ρ c r k ⟨512 * (c.val / 4) + 256 * (c.val % 2) + k.val, by omega⟩ rfl, xstg_eq, hx c, Layout.blockN_apply]
  refine congrArg x (funext fun a => Fin.ext ?_)
  match a with
  | ⟨0, _⟩ => show 0 * 256 + r.val = r.val; omega
  | ⟨1, _⟩ =>
    show (c.val / 2 % 2 * 1 + 0) * 1024 + (512 * (c.val / 4) + 256 * (c.val % 2) + k.val) = q.val
    omega

/-- **The kernel's result**: column `j` holds each row's `j`-th largest distinct value. -/
theorem outV_whole (hx : Cut m x) (r : Fin 256) (j : Fin 8) : outV m ρ (ix2 r j) = pk (img (row x r)) j := by
  rw [outV_apply]
  refine pk_parts (fun c : Dev nD => img (row (cols m ρ c) r)) (n := 8) j.isLt (fun c t ht => ?_) (fun t ht => ?_) (fun t => ?_)
  · obtain ⟨k, rfl⟩ := mem_img.1 ht
    have hc : c.val < 8 := c.isLt
    have hk := k.isLt
    exact mem_img.2 ⟨⟨1024 * (c.val / 2 % 2) + 512 * (c.val / 4) + 256 * (c.val % 2) + k.val, by omega⟩, (cols_whole m ρ x hx c r k _ rfl).symm⟩
  · obtain ⟨q, rfl⟩ := mem_img.1 ht
    have hq := q.isLt
    obtain ⟨u, hu, hu'⟩ : ∃ u, u = q.val % 1024 / 512 ∧ u < 2 := ⟨_, rfl, by omega⟩
    obtain ⟨v, hv, hv'⟩ : ∃ v, v = q.val / 1024 ∧ v < 2 := ⟨_, rfl, by omega⟩
    obtain ⟨w, hw, hw'⟩ : ∃ w, w = q.val % 512 / 256 ∧ w < 2 := ⟨_, rfl, by omega⟩
    have e : q.val = 1024 * v + 512 * u + 256 * w + q.val % 256 := by omega
    refine ⟨⟨4 * u + 2 * v + w, show _ < 8 by omega⟩, mem_img.2 ⟨⟨q.val % 256, by omega⟩, ?_⟩⟩
    refine cols_whole m ρ x hx _ r _ q ?_
    show q.val = 1024 * ((4 * u + 2 * v + w) / 2 % 2) + 512 * ((4 * u + 2 * v + w) / 4) + 256 * ((4 * u + 2 * v + w) % 2) + q.val % 256
    rw [show (4 * u + 2 * v + w) / 2 % 2 = v by omega, show (4 * u + 2 * v + w) / 4 = u by omega, show (4 * u + 2 * v + w) % 2 = w by omega]
    exact e
  · constructor
    · intro ht
      obtain ⟨k, rfl⟩ := mem_img.1 ht
      have hk := k.isLt
      have hs : k.val / 8 < 8 := by omega
      have hi : k.val % 8 < 8 := by omega
      have e1 := gathV_apply m ρ r k ⟨k.val / 8, hs⟩ ⟨k.val % 8, hi⟩ rfl rfl
      have e2 := candV_apply m ρ (⟨k.val / 8, hs⟩ : Fin 8) r ⟨k.val % 8, hi⟩
      exact ⟨(⟨k.val / 8, hs⟩ : Fin 8), k.val % 8, hi, e1.trans e2⟩
    · intro ht
      obtain ⟨c, i, hi, ht⟩ := ht
      rw [ht]
      have hc : c.val < 8 := c.isLt
      have hk : 8 * c.val + i < 64 := by omega
      have e1 := gathV_apply m ρ r ⟨8 * c.val + i, hk⟩ c ⟨i, hi⟩ (show (8 * c.val + i) / 8 = c.val by omega)
        (show i = (8 * c.val + i) % 8 by omega)
      exact mem_img.2 ⟨⟨8 * c.val + i, hk⟩, e1.trans (candV_apply m ρ c r ⟨i, hi⟩)⟩

end Cert.TopK
-- ==== Proof.Sorts.lean ====
/-
# Sorting a row of extended reals

Both programs compared with the kernel sort the negated rows. Over the extended reals their comparators are `<`, so a
sorted row is the row read through one rearrangement of its positions, ascending.
-/
module

public import proofs.«01_k».proof.Proof.Rounds
public import Idealize.ShloMosaic.Lib.SortFacts
public import Idealize.ShloMosaic.Lib.ValueIdx
public import Idealize.ShloMosaic.Lib.ValueLayout

@[expose] public section

noncomputable section

namespace Cert.TopK

open Idealize.ShloMosaic
open Idealize.ShloMosaic.ValueIdx (ix1 ix2 ix3)

abbrev Whole : Shape := ⟨2, ![256, 2048]⟩

/-- The position a sorted row's entry comes from. -/
def ord (f : Fin 2048 → EReal) : Fin 2048 → Fin 2048 := sortedFrom fun k k' => decide (f k < f k')

theorem ord_injective (f : Fin 2048 → EReal) : Function.Injective (ord f) := sortedFrom_injective _
theorem ord_surjective (f : Fin 2048 → EReal) : Function.Surjective (ord f) := sortedFrom_surjective _

/-- The sorted row ascends. -/
theorem ord_monotone (f : Fin 2048 → EReal) : Monotone fun k => f (ord f k) := by
  intro i j hij
  rcases hij.eq_or_lt with rfl | hij
  · exact le_rfl
  · have h := sortedFrom_noInversion (fun k k' => decide (f k < f k')) (fun k k' => decide (f k < f k'))
      (fun a b h => decide_eq_false (lt_asymm (of_decide_eq_true h))) (fun a b h => h)
      (fun a b c h h' => decide_eq_false (not_lt.2 ((not_lt.1 (of_decide_eq_false h')).trans (not_lt.1 (of_decide_eq_false h))))) i j hij
    exact not_lt.1 (of_decide_eq_false h)

/-- A comparator's clean-up of one operand (signed zeros to zero, a NaN to one NaN) changes no extended real. -/
theorem tidy (z n l : EReal) :
    Scalar.select (FloatOps.cmpf (F := Ideal) (φ := .f32) .une l l) n
      (Scalar.select (FloatOps.cmpf (F := Ideal) (φ := .f32) .oeq l z) z l) = l := by
  show Scalar.select (BitVec.ofBool (decide (l ≠ l))) n (Scalar.select (BitVec.ofBool (decide (l = z))) z l) = l
  rw [decide_eq_false (fun h : l ≠ l => h rfl)]
  by_cases e : l = z
  · rw [decide_eq_true e, e]; rfl
  · rw [decide_eq_false e]; rfl

theorem along_ix2 (r : Fin 256) (j k : Fin 2048) : Shape.Idx.along (s := Whole) (ix2 r j) 1 k = ix2 r k := by
  funext a
  match a with
  | ⟨0, _⟩ => rfl
  | ⟨1, _⟩ => rfl

/-- A sort by `<`, read at an entry. -/
theorem sort_apply (cmp : EReal → EReal → BitVec 1) (hc : ∀ l r, cmp l r = BitVec.ofBool (decide (l < r)))
    (x : Whole.Idx → EReal) (r : Fin 256) (j : Fin 2048) :
    Host.sort Whole 1 cmp x (ix2 r j) = x (ix2 r (ord (row x r) j)) := by
  have hb : (fun k k' : Fin 2048 => cmp (x (Shape.Idx.along (s := Whole) (ix2 r j) 1 k)) (x (Shape.Idx.along (s := Whole) (ix2 r j) 1 k')) == 1#1)
      = fun k k' => decide (row x r k < row x r k') := by
    funext k k'
    rw [along_ix2, along_ix2, hc]
    show (BitVec.ofBool (decide (row x r k < row x r k')) == 1#1) = decide (row x r k < row x r k')
    cases decide (row x r k < row x r k') <;> rfl
  have e : Host.sort Whole 1 cmp x (ix2 r j) = x (Shape.Idx.along (s := Whole) (ix2 r j) 1
      (sortedFrom (fun k k' : Fin 2048 => cmp (x (Shape.Idx.along (s := Whole) (ix2 r j) 1 k)) (x (Shape.Idx.along (s := Whole) (ix2 r j) 1 k')) == 1#1) j)) :=
    rfl
  refine e.trans ((congrArg _ (along_ix2 r j _)).trans ?_)
  unfold ord
  rw [← hb]
  rfl

/-- The companion of a sort by `<` of the first operand, read at an entry. -/
theorem sort2_apply {β : Type} (cmp : EReal × β → EReal × β → BitVec 1) (hc : ∀ l r, cmp l r = BitVec.ofBool (decide (l.1 < r.1)))
    (x : Whole.Idx → EReal) (y : Whole.Idx → β) (r : Fin 256) (j : Fin 2048) :
    (Host.sort2 Whole 1 cmp x y).2 (ix2 r j) = y (ix2 r (ord (row x r) j)) := by
  have hb : (fun k k' : Fin 2048 => cmp (x (Shape.Idx.along (s := Whole) (ix2 r j) 1 k), y (Shape.Idx.along (s := Whole) (ix2 r j) 1 k))
        (x (Shape.Idx.along (s := Whole) (ix2 r j) 1 k'), y (Shape.Idx.along (s := Whole) (ix2 r j) 1 k')) == 1#1)
      = fun k k' => decide (row x r k < row x r k') := by
    funext k k'
    rw [along_ix2, along_ix2, hc]
    show (BitVec.ofBool (decide (row x r k < row x r k')) == 1#1) = decide (row x r k < row x r k')
    cases decide (row x r k < row x r k') <;> rfl
  have e : (Host.sort2 Whole 1 cmp x y).2 (ix2 r j) = y (Shape.Idx.along (s := Whole) (ix2 r j) 1
      (sortedFrom (fun k k' : Fin 2048 => cmp (x (Shape.Idx.along (s := Whole) (ix2 r j) 1 k), y (Shape.Idx.along (s := Whole) (ix2 r j) 1 k))
        (x (Shape.Idx.along (s := Whole) (ix2 r j) 1 k'), y (Shape.Idx.along (s := Whole) (ix2 r j) 1 k')) == 1#1) j)) := rfl
  refine e.trans ((congrArg _ (along_ix2 r j _)).trans ?_)
  unfold ord
  rw [← hb]
  rfl

/-- The negated row, sorted ascending. -/
def asc (x : Whole.Idx → EReal) (r : Fin 256) (k : Fin 2048) : EReal := - x (ix2 r (ord (fun k => - x (ix2 r k)) k))

theorem asc_monotone (x : Whole.Idx → EReal) (r : Fin 256) : Monotone (asc x r) := ord_monotone fun k => - x (ix2 r k)

/-- Negated back, it runs through the row's values. -/
theorem img_asc (x : Whole.Idx → EReal) (r : Fin 256) : img (fun k => - asc x r k) = img (row x r) := by
  ext t
  rw [mem_img, mem_img]
  constructor
  · rintro ⟨k, rfl⟩
    exact ⟨_, (neg_neg _).symm⟩
  · rintro ⟨k, rfl⟩
    obtain ⟨i, hi⟩ := ord_surjective (fun k => - x (ix2 r k)) k
    exact ⟨i, by unfold asc; rw [hi, neg_neg]; rfl⟩

end Cert.TopK
-- ==== Proof.Reference.lean ====
/-
# What the reference computes

`argsort` of the negated rows gives, for each place, the position of the entry that belongs there; `take_along_axis` reads
the row at the first eight of those positions. Every position is in range, so its bounds check always passes.
-/
module

public import proofs.«01_k».proof.Proof.Sorts
public import proofs.«01_k».proof.Proof.Gen.ReferenceIdeal
public import proofs.«01_k».proof.Proof.Gen.ReferenceIdeal.Run
public import Idealize.ShloMosaic.Lib.IdealHost
public import Idealize.ShloMosaic.Lib.ReduceAll

@[expose] public section

noncomputable section

namespace Cert.TopK.Reference

open Cert.ReferenceIdeal Cert.ReferenceIdeal.Gen
open Idealize.ShloMosaic Idealize.SL.Sem
open Idealize.ShloMosaic.TcCoe
open Idealize.ShloMosaic.ValueIdx (ix1 ix2 ix3)

variable (x : FVec Ideal S256x2048 .bf16)

/-- The first eight positions of the sorted row. -/
def idxV : IVec S256x8 32 :=
  extractStridedSlice S256x8 ![0, 0] ((Host.sort2 S256x2048 1 comparator_f32_i32_d1 (Host.negf (extf .f32 x bitsLt_bf16_f32)) (iotaInDim S256x2048 32 1)).2)
    slices_S256x2048_S256x8_0_0

/-- The positions with negative ones counted from the end, as start indices. -/
def posV : IVec S256x8x1 32 :=
  shapeCast S256x8x1 (select (cmpi .slt (idxV x) (broadcastInDim S256x8 ![] bcast_S_S256x8 (constantI S_ 32 0#32)))
    (addi (idxV x) (broadcastInDim S256x8 ![] bcast_S_S256x8 (constantI S_ 32 2048#32))) (idxV x)) shapeCasts_S256x8_S256x8x1

/-- Whether a position is in range. -/
def inV : IVec S256x8 1 :=
  Host.reduce IntOp.andi (andi (cmpi .sge (posV x) (broadcastInDim S256x8x1 ![] bcast_S_S256x8x1 (constantI S_ 32 0#32)))
    (cmpi .sle (posV x) (broadcastInDim S256x8x1 ![0, 1, 2] bcast_S1x1x1_S256x8x1_0_1_2 (broadcastInDim S1x1x1 ![2] bcast_S1_S1x1x1_2 (constantI S1 32 2047#32)))))
    (constantI S_ 1 1#1) reducesTo_S256x8x1_S256x8_d2 h_S_

/-- The reference's result. -/
def refV : FVec Ideal S256x8 .f32 :=
  select (inV x) (Host.gather gather_S256x2048_S256x8x1_S256x8_n_1_0_0_1_2_11 (extf .f32 x bitsLt_bf16_f32) (posV x))
    (broadcastInDim S256x8 ![] bcast_S_S256x8 (constant S_ .f32 0x7FC00000#32))

/-- The position the `j`-th entry of the sorted row comes from. -/
def from_ (r : Fin 256) (j : Fin 8) : Fin 2048 := ord (fun k => - x (ix2 r k)) ⟨j.val, by omega⟩

theorem cmp_eq (l r : EReal × BitVec 32) : comparator_f32_i32_d1 (F := Ideal) l r = BitVec.ofBool (decide (l.1 < r.1)) := by
  unfold comparator_f32_i32_d1
  simp only [tidy]
  rfl

theorem idxV_apply (r : Fin 256) (j : Fin 8) : idxV x (ix2 r j) = BitVec.ofNat 32 (from_ x r j).val := by
  unfold idxV
  refine (ValueIdx.slice2_axis1_apply (n0 := 256) (n1 := 2048) (m := 8) 0 _ _ r j ⟨j.val, by omega⟩ (Nat.zero_add _).symm).trans ?_
  have e := sort2_apply (β := BitVec 32) (comparator_f32_i32_d1 (F := Ideal)) cmp_eq (Host.negf (extf .f32 x bitsLt_bf16_f32))
    (iotaInDim S256x2048 32 1) r ⟨j.val, by omega⟩
  exact e

theorem toInt_small (n : Fin 2048) : (BitVec.ofNat 32 n.val).toInt = n.val := by
  have hn := n.isLt
  rw [BitVec.toInt_eq_toNat_cond, BitVec.toNat_ofNat, Nat.mod_eq_of_lt (by omega), if_pos (by omega)]

theorem posV_apply (r : Fin 256) (j : Fin 8) (u : Fin 1) : posV x (ix3 r j u) = BitVec.ofNat 32 (from_ x r j).val := by
  unfold posV
  rw [shapeCast_apply _ _ (ix3 r j u) (ix2 r j) (by
    have hu : u.val = 0 := by omega
    rw [Shape.rowMajor_val_two, Shape.rowMajor_val_three]
    show r.val * 8 + j.val = (r.val * 8 + j.val) * 1 + u.val
    omega)]
  show Scalar.select (BitVec.ofBool ((idxV x (ix2 r j)).slt 0#32)) _ (idxV x (ix2 r j)) = _
  rw [idxV_apply, BitVec.slt_eq_decide, toInt_small, BitVec.toInt_zero, decide_eq_false (not_lt.2 (Int.natCast_nonneg _))]
  rfl

theorem inV_apply (i : S256x8.Idx) : inV x i = 1#1 := by
  refine Host.reduce_andi_one _ _ _ _ _ rfl fun i => ?_
  obtain ⟨r, j, u, rfl⟩ : ∃ r j u, i = ix3 (n0 := 256) (n1 := 8) (n2 := 1) r j u := ⟨i 0, i 1, i 2, by
    funext a
    match a with
    | ⟨0, _⟩ => rfl
    | ⟨1, _⟩ => rfl
    | ⟨2, _⟩ => rfl⟩
  have hn := (from_ x r j).isLt
  show IntOp.andi (BitVec.ofBool ((0#32).sle (posV x (ix3 r j u)))) (BitVec.ofBool ((posV x (ix3 r j u)).sle 2047#32)) = 1#1
  rw [posV_apply, BitVec.sle_eq_decide, BitVec.sle_eq_decide, toInt_small, BitVec.toInt_zero, decide_eq_true (Int.natCast_nonneg _), decide_eq_true (by
    show ((from_ x r j).val : ℤ) ≤ 2047
    omega)]
  rfl

/-- **The reference's result**: the row's entry at the `j`-th place of the descending order. -/
theorem refV_apply (r : Fin 256) (j : Fin 8) : refV x (ix2 r j) = x (ix2 r (from_ x r j)) := by
  unfold refV
  rw [ValueIdx.select_apply, inV_apply]
  show x (GatherDims.operandIdx gather_S256x2048_S256x8x1_S256x8_n_1_0_0_1_2_11 (ix2 r j) (posV x)) = _
  refine congrArg x (funext fun a => Fin.ext ?_)
  match a with
  | ⟨0, _⟩ => show 0 + r.val + 0 = r.val; omega
  | ⟨1, _⟩ =>
    show min (posV x (GatherDims.siIdx gather_S256x2048_S256x8x1_S256x8_n_1_0_0_1_2_11 (ix2 r j) ⟨0, by decide⟩)).toInt.toNat (2048 - 1) + 0 + 0 = _
    have e : GatherDims.siIdx gather_S256x2048_S256x8x1_S256x8_n_1_0_0_1_2_11 (ix2 r j) ⟨0, by decide⟩ = ix3 r j 0 := by
      funext b
      match b with
      | ⟨0, _⟩ => rfl
      | ⟨1, _⟩ => rfl
      | ⟨2, _⟩ => rfl
    have hn := (from_ x r j).isLt
    rw [e, posV_apply, toInt_small]
    show min (from_ x r j).val (2048 - 1) + 0 + 0 = (from_ x r j).val
    omega

/-- The run in closed form: the result buffer holds that value and the argument is unchanged. -/
theorem run_closed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = refV (m ((c.tc : Thread nD τ).loc main_arg0))
      ∧ r.2.mem ((c.tc : Thread nD τ).loc main_arg0) = m ((c.tc : Thread nD τ).loc main_arg0) :=
  Value.run (F := Ideal) m ρ

end Cert.TopK.Reference
-- ==== Proof.Untied.lean ====
/-
# Where the largest values are distinct, the reference and the kernel agree

The mask sets entry `j` of a row where the sorted negated row strictly ascends up to place `j`. There the reference's
entry is the row's `j`-th largest distinct value.
-/
module

public import proofs.«01_k».proof.Proof.Reference
public import proofs.«01_k».proof.Proof.Gen.On_untied

@[expose] public section

noncomputable section

namespace Cert.TopK.Untied

open Cert.On_untied Cert.On_untied.Gen
open Idealize.ShloMosaic
open Idealize.ShloMosaic.ValueIdx (ix1 ix2 ix3)

variable (x : FVec Ideal S256x2048 .bf16)

theorem cmp_eq (l r : EReal) : comparator_f32_d1 (F := Ideal) l r = BitVec.ofBool (decide (l < r)) := by
  unfold comparator_f32_d1
  simp only [tidy]
  rfl

/-- The sorted negated rows. -/
def sV : FVec Ideal S256x2048 .f32 := fn_sort (Host.negf (extf .f32 x bitsLt_bf16_f32))

theorem sV_apply (r : Fin 256) (k : Fin 2048) : sV x (ix2 r k) = asc x r k := by
  unfold sV fn_sort
  have e := sort_apply (comparator_f32_d1 (F := Ideal)) cmp_eq (Host.negf (extf .f32 x bitsLt_bf16_f32)) r k
  exact e

/-- A chain of conjunctions that is set has every link set. -/
theorem chain (c : Fin 8 → BitVec 1) (d : Fin 7 → BitVec 1) (hc : ∀ j : Fin 7, c j.succ = c j.castSucc &&& d j) (j : ℕ) (hj : j < 8)
    (h : c ⟨j, hj⟩ = 1#1) (i : Fin 7) (hi : i.val < j) : d i = 1#1 := by
  have both : ∀ a b : BitVec 1, a &&& b = 1#1 → a = 1#1 ∧ b = 1#1 := by decide
  induction j with
  | zero => omega
  | succ j ih =>
    have h' := both _ _ ((hc ⟨j, by omega⟩).symm.trans h)
    rcases Nat.lt_succ_iff_lt_or_eq.1 hi with hlt | rfl
    · exact ih (by omega) h'.1 hlt
    · exact h'.2

/-- Whether the sorted rows step up from place `o` to place `o'`. -/
def upV (o o' : ℕ) (ho : S256x2048.Slices ![0, o] S256x1) (ho' : S256x2048.Slices ![0, o'] S256x1) : IVec S256x1 1 :=
  cmpf .olt (extractStridedSlice S256x1 ![0, o] (sV x) ho) (extractStridedSlice S256x1 ![0, o'] (sV x) ho')

def c0 : IVec S256x1 1 := broadcastInDim S256x1 ![] bcast_S_S256x1 (constantI S_ 1 1#1)
def c1 : IVec S256x1 1 := andi c0 (upV x 0 1 slices_S256x2048_S256x1_0_0 slices_S256x2048_S256x1_0_1)
def c2 : IVec S256x1 1 := andi (c1 x) (upV x 1 2 slices_S256x2048_S256x1_0_1 slices_S256x2048_S256x1_0_2)
def c3 : IVec S256x1 1 := andi (c2 x) (upV x 2 3 slices_S256x2048_S256x1_0_2 slices_S256x2048_S256x1_0_3)
def c4 : IVec S256x1 1 := andi (c3 x) (upV x 3 4 slices_S256x2048_S256x1_0_3 slices_S256x2048_S256x1_0_4)
def c5 : IVec S256x1 1 := andi (c4 x) (upV x 4 5 slices_S256x2048_S256x1_0_4 slices_S256x2048_S256x1_0_5)
def c6 : IVec S256x1 1 := andi (c5 x) (upV x 5 6 slices_S256x2048_S256x1_0_5 slices_S256x2048_S256x1_0_6)
def c7 : IVec S256x1 1 := andi (c6 x) (upV x 6 7 slices_S256x2048_S256x1_0_6 slices_S256x2048_S256x1_0_7)

/-- The mask is the eight conjunctions side by side. -/
theorem fn_eq : fn (F := Ideal) x = concatenate S256x8 1 [⟨S256x1, c0⟩, ⟨S256x1, c1 x⟩, ⟨S256x1, c2 x⟩, ⟨S256x1, c3 x⟩, ⟨S256x1, c4 x⟩,
    ⟨S256x1, c5 x⟩, ⟨S256x1, c6 x⟩, ⟨S256x1, c7 x⟩] concatenates_S256x1_S256x1_S256x1_S256x1_S256x1_S256x1_S256x1_S256x1_S256x8_d1 := by
  unfold fn fn_part1
  rfl

/-- The sorted row steps up from place `i` to the next. -/
def step (r : Fin 256) (i : Fin 7) : BitVec 1 :=
  FloatOps.cmpf (F := Ideal) (φ := .f32) .olt (asc x r ⟨i.val, by omega⟩) (asc x r ⟨i.val + 1, by omega⟩)

theorem slice_apply (r : Fin 256) (o : ℕ) (ho : S256x2048.Slices ![0, o] S256x1) (k : Fin 2048) (hk : k.val = o) :
    extractStridedSlice S256x1 ![0, o] (sV x) ho (ix2 r 0) = asc x r k :=
  (ValueIdx.slice2_axis1_apply (n0 := 256) (n1 := 2048) (m := 1) o (sV x) ho r 0 k hk).trans (sV_apply x r k)

theorem upV_apply (r : Fin 256) (i : Fin 7) (ho : S256x2048.Slices ![0, i.val] S256x1) (ho' : S256x2048.Slices ![0, i.val + 1] S256x1) :
    upV x i.val (i.val + 1) ho ho' (ix2 r 0) = step x r i :=
  congrArg₂ (FloatOps.cmpf (F := Ideal) (φ := .f32) .olt) (slice_apply x r i.val ho ⟨i.val, by omega⟩ rfl)
    (slice_apply x r (i.val + 1) ho' ⟨i.val + 1, by omega⟩ rfl)

/-- Where the mask is set, every earlier step goes up. -/
theorem mask_step (r : Fin 256) (j : Fin 8) (h : fn (F := Ideal) x (ix2 r j) = 1#1) (i : Fin 7) (hi : i.val < j.val) :
    asc x r ⟨i.val, by omega⟩ < asc x r ⟨i.val + 1, by omega⟩ := by
  have h' : (![c0, c1 x, c2 x, c3 x, c4 x, c5 x, c6 x, c7 x] : Fin 8 → S256x1.Idx → BitVec 1) j (ix2 r 0) = 1#1 := by
    rw [fn_eq] at h
    exact (columns_apply c0 (c1 x) (c2 x) (c3 x) (c4 x) (c5 x) (c6 x) (c7 x) _ r j).symm.trans h
  have hd : step x r i = 1#1 := by
    refine chain (fun j => (![c0, c1 x, c2 x, c3 x, c4 x, c5 x, c6 x, c7 x] : Fin 8 → S256x1.Idx → BitVec 1) j (ix2 r 0)) (step x r) ?_
      j.val j.isLt h' i hi
    intro j
    match j with
    | 0 => exact congrArg (c0 (ix2 r 0) &&& ·) (upV_apply x r 0 _ _)
    | 1 => exact congrArg (c1 x (ix2 r 0) &&& ·) (upV_apply x r 1 _ _)
    | 2 => exact congrArg (c2 x (ix2 r 0) &&& ·) (upV_apply x r 2 _ _)
    | 3 => exact congrArg (c3 x (ix2 r 0) &&& ·) (upV_apply x r 3 _ _)
    | 4 => exact congrArg (c4 x (ix2 r 0) &&& ·) (upV_apply x r 4 _ _)
    | 5 => exact congrArg (c5 x (ix2 r 0) &&& ·) (upV_apply x r 5 _ _)
    | 6 => exact congrArg (c6 x (ix2 r 0) &&& ·) (upV_apply x r 6 _ _)
  unfold step at hd
  by_contra hn
  have h0 : FloatOps.cmpf (F := Ideal) (φ := .f32) .olt (asc x r ⟨i.val, by omega⟩) (asc x r ⟨i.val + 1, by omega⟩) = 0#1 := by
    show BitVec.ofBool (decide (_ < _)) = 0#1
    rw [decide_eq_false hn]; rfl
  rw [h0] at hd
  exact absurd hd (by decide)

/-- **Under the mask** the reference's entry is the row's `j`-th largest distinct value. -/
theorem refV_untied (r : Fin 256) (j : Fin 8) (h : fn (F := Ideal) x (ix2 r j) = 1#1) :
    Reference.refV x (ix2 r j) = pk (img (row x r)) j := by
  have hstep : ∀ i : ℕ, ∀ k : ℕ, ∀ hik : i < k, ∀ hk : k ≤ j.val, asc x r ⟨i, by omega⟩ < asc x r ⟨k, by omega⟩ := by
    intro i k hik hk
    refine lt_of_lt_of_le (mask_step x r j h ⟨i, by omega⟩ (show i < j.val by omega)) (asc_monotone x r ?_)
    show i + 1 ≤ k
    omega
  have hw : Antitone fun k => - asc x r k := fun a b hab => EReal.neg_le_neg_iff.2 (asc_monotone x r hab)
  have e := pk_of_strict (fun k => - asc x r k) hw ⟨j.val, by omega⟩
    (fun i hi => EReal.neg_lt_neg_iff.2 (hstep i.val j.val hi le_rfl))
    (fun i k hik hk => EReal.neg_lt_neg_iff.2 (hstep i.val k.val hik (Nat.le_of_lt hk)))
  rw [img_asc] at e
  rw [Reference.refV_apply]
  refine Eq.trans ?_ e.symm
  exact (neg_neg _).symm

end Cert.TopK.Untied
-- ==== Proof.Ties.lean ====
/-
# Why the comparison with the reference needs its mask

At an array of equal entries the reference's second column repeats the entry and the kernel's is `⊥`.
-/
module

public import proofs.«01_k».proof.Proof.Whole
public import proofs.«01_k».proof.Proof.Reference

@[expose] public section

noncomputable section

namespace Cert.TopK

open Idealize.ShloMosaic
open Idealize.ShloMosaic.ValueIdx (ix1 ix2 ix3)

/-- A row of equal entries has no second distinct value. -/
theorem pk_const {n : ℕ} (t : EReal) : pk (img fun _ : Fin n => t) 1 = ⊥ := by
  by_contra h
  obtain ⟨hm, hr⟩ := pk_spec h
  obtain ⟨_, e⟩ := mem_img.1 hm
  have h0 : rk (img fun _ : Fin n => t) (pk (img fun _ : Fin n => t) 1) = 0 := by
    unfold rk
    refine Finset.card_eq_zero.2 (Finset.filter_eq_empty_iff.2 fun s hs => ?_)
    obtain ⟨_, e'⟩ := mem_img.1 hs
    rw [← e, ← e']
    exact lt_irrefl _
  omega

/-- At an array of zeros the closed form of the kernel's run differs from that of the reference's in the second column. -/
theorem differ (m : (ℓ : Loc KernelIdeal.nD KernelIdeal.τ KernelIdeal.sig) → Buf (Elt Ideal) ℓ) (ρ : Dev KernelIdeal.nD → PrngReg)
    (hx : Cut m fun _ => (0 : EReal)) (r : Fin 256) : outV m ρ (ix2 r 1) ≠ Reference.refV (fun _ => (0 : EReal)) (ix2 r 1) := by
  rw [outV_whole m ρ _ hx, Reference.refV_apply]
  have e := pk_const (n := 2048) 0
  intro h
  exact EReal.bot_ne_zero (e.symm.trans h)

end Cert.TopK
-- ==== Proof.Distinct.lean ====
/-
# What the program for the distinct values computes

It sorts the negated row, puts `⊤` over every entry equal to the one before it, sorts again and negates the first eight.
-/
module

public import proofs.«01_k».proof.Proof.Sorts
public import proofs.«01_k».proof.Proof.Gen.DistinctIdeal
public import proofs.«01_k».proof.Proof.Gen.DistinctIdeal.Run
public import Idealize.ShloMosaic.Lib.IdealHost
public import Idealize.ShloMosaic.Lib.Pipeline.Value

@[expose] public section

noncomputable section

namespace Cert.TopK

open Classical in
/-- Keeping of an ascending sequence only the first of equal entries, and sorting what is kept, gives the distinct values
in order. -/
theorem pk_kept {n : ℕ} (a kept : Fin n → EReal) (ha : Monotone a)
    (hk : ∀ k, kept k = if ∀ i, i < k → a i < a k then a k else ⊤) (σ : Fin n → Fin n) (hi : Function.Injective σ)
    (hs : Function.Surjective σ) (ht : Monotone fun k => kept (σ k)) (j : Fin n) :
    pk (img fun k => - a k) j = - kept (σ j) := by
  have first : ∀ k, kept k ≠ ⊤ → (∀ i, i < k → a i < a k) ∧ kept k = a k := by
    intro k hne
    rw [hk] at hne ⊢
    by_cases h : ∀ i, i < k → a i < a k
    · exact ⟨h, if_pos h⟩
    · exact absurd (if_neg h) hne
  have once : ∀ k k', kept k = kept k' → kept k ≠ ⊤ → k = k' := by
    intro k k' h hne
    obtain ⟨f, e⟩ := first k hne
    obtain ⟨f', e'⟩ := first k' (h ▸ hne)
    rw [e, e'] at h
    rcases lt_trichotomy k k' with hl | he | hl
    · exact absurd h (f' k hl).ne
    · exact he
    · exact absurd h (f k' hl).ne'
  have hw : Antitone fun k => - kept (σ k) := fun k k' h => EReal.neg_le_neg_iff.2 (ht h)
  have ho : ∀ i k, - kept (σ i) = - kept (σ k) → - kept (σ i) ≠ ⊥ → i = k := by
    intro i k h hne
    refine hi (once _ _ (neg_injective h) fun h' => hne ?_)
    rw [h', EReal.neg_top]
  have e := pk_of_once (fun k => - kept (σ k)) hw ho j
  refine Eq.trans ?_ e
  refine (pk_congr (n := j.val + 1) ?_ ?_ (Nat.lt_succ_self _)).symm
  · intro t h hb
    obtain ⟨k, rfl⟩ := mem_img.1 h
    have hne : kept (σ k) ≠ ⊤ := fun h' => hb (by rw [h', EReal.neg_top])
    exact mem_img.2 ⟨σ k, by rw [(first _ hne).2]⟩
  · intro t h hb _
    obtain ⟨k, rfl⟩ := mem_img.1 h
    have hex : ∃ m : ℕ, ∃ hm : m < n, a ⟨m, hm⟩ = a k := ⟨k.val, k.isLt, rfl⟩
    obtain ⟨hm, he⟩ := Nat.find_spec hex
    have hf : ∀ i : Fin n, i < ⟨Nat.find hex, hm⟩ → a i < a ⟨Nat.find hex, hm⟩ := fun i hlt =>
      lt_of_le_of_ne (ha hlt.le) fun h' => Nat.find_min hex hlt ⟨i.isLt, h'.trans he⟩
    obtain ⟨l, hl⟩ := hs ⟨Nat.find hex, hm⟩
    refine mem_img.2 ⟨l, ?_⟩
    rw [hl, hk, if_pos hf, he]

namespace Distinct

open Cert.DistinctIdeal Cert.DistinctIdeal.Gen
open Idealize.ShloMosaic Idealize.SL.Sem
open Idealize.ShloMosaic.ValueIdx (ix1 ix2 ix3)

variable (x : FVec Ideal S256x2048 .bf16)

/-- The sorted negated rows. -/
def sV : FVec Ideal S256x2048 .f32 := Host.sort S256x2048 1 comparator_f32_d1 (Host.negf (extf .f32 x bitsLt_bf16_f32))

/-- Whether an entry differs from the one before it. -/
def firstV : IVec S256x2048 1 :=
  concatenate S256x2048 1 [⟨S256x1, broadcastInDim S256x1 ![] bcast_S_S256x1 (constantI S_ 1 1#1)⟩,
    ⟨S256x2047, cmpf .olt (extractStridedSlice S256x2047 ![0, 0] (sV x) slices_S256x2048_S256x2047_0_0)
      (extractStridedSlice S256x2047 ![0, 1] (sV x) slices_S256x2048_S256x2047_0_1)⟩] concatenates_S256x1_S256x2047_S256x2048_d1

/-- The sorted rows with the later ones of equal entries put last. -/
def keptV : FVec Ideal S256x2048 .f32 :=
  select (firstV x) (sV x) (broadcastInDim S256x2048 ![] bcast_S_S256x2048 (id (constant S_ .f32 0x7F800000#32)))

/-- The program's result. -/
def distV : FVec Ideal S256x8 .f32 :=
  Host.negf (extractStridedSlice S256x8 ![0, 0] (Host.sort S256x2048 1 comparator_f32_d1 (keptV x)) slices_S256x2048_S256x8_0_0)

theorem cmp_eq (l r : EReal) : comparator_f32_d1 (F := Ideal) l r = BitVec.ofBool (decide (l < r)) := by
  unfold comparator_f32_d1
  simp only [tidy]
  rfl

theorem sV_apply (r : Fin 256) (k : Fin 2048) : sV x (ix2 r k) = asc x r k := by
  unfold sV
  have e := sort_apply (comparator_f32_d1 (F := Ideal)) cmp_eq (Host.negf (extf .f32 x bitsLt_bf16_f32)) r k
  exact e

theorem top_eq : FloatOps.ofBits (F := Ideal) .f32 0x7F800000#32 = (⊤ : EReal) := by
  simp [FloatOps.ofBits, Ideal.ofBits, Ideal.ieee]

theorem firstV_zero (r : Fin 256) (k : Fin 2048) (hk : k.val = 0) : firstV x (ix2 r k) = 1#1 := by
  unfold firstV
  refine (concatenate_pair_apply_left (t := S256x2048) (s₁ := S256x1) (s₂ := S256x2047) 1 _ _ _ (ix2 r k) rfl (ix2 r (0 : Fin 1)) ?_).trans rfl
  intro b
  match b with
  | ⟨0, _⟩ => rfl
  | ⟨1, _⟩ => exact hk.symm

theorem firstV_succ (r : Fin 256) (k : Fin 2048) (i : Fin 2047) (hk : i.val + 1 = k.val) :
    firstV x (ix2 r k) = BitVec.ofBool (decide (asc x r ⟨i.val, by omega⟩ < asc x r k)) := by
  unfold firstV
  refine (concatenate_pair_apply_right (t := S256x2048) (s₁ := S256x1) (s₂ := S256x2047) 1 _ _ _ (ix2 r k) rfl rfl (ix2 r i) ?_ hk).trans ?_
  · intro b hb
    match b with
    | ⟨0, _⟩ => rfl
    | ⟨1, _⟩ => exact absurd rfl hb
  · have e0 := ValueIdx.slice2_axis1_apply (n0 := 256) (n1 := 2048) (m := 2047) 0 (sV x) slices_S256x2048_S256x2047_0_0 r i
      ⟨i.val, by omega⟩ (Nat.zero_add _).symm
    have e1 := ValueIdx.slice2_axis1_apply (n0 := 256) (n1 := 2048) (m := 2047) 1 (sV x) slices_S256x2048_S256x2047_0_1 r i
      k (hk.symm.trans (Nat.add_comm _ _))
    exact congrArg₂ (FloatOps.cmpf (F := Ideal) (φ := .f32) .olt) (e0.trans (sV_apply x r _)) (e1.trans (sV_apply x r _))

open Classical in
theorem keptV_apply (r : Fin 256) (k : Fin 2048) :
    keptV x (ix2 r k) = if ∀ i, i < k → asc x r i < asc x r k then asc x r k else ⊤ := by
  have e : keptV x (ix2 r k) = Scalar.select (firstV x (ix2 r k)) (asc x r k) ⊤ := by
    unfold keptV
    refine (ValueIdx.select_apply _ _ _ _).trans ?_
    exact congrArg₂ (Scalar.select (firstV x (ix2 r k))) (sV_apply x r k) top_eq
  rw [e]
  rcases Nat.eq_zero_or_pos k.val with h0 | h0
  · rw [firstV_zero x r k h0, if_pos (fun i hi => absurd (show i.val < k.val from hi) (by omega))]
    rfl
  · have hk := k.isLt
    rw [firstV_succ x r k ⟨k.val - 1, by omega⟩ (show k.val - 1 + 1 = k.val by omega)]
    by_cases h : asc x r ⟨k.val - 1, by omega⟩ < asc x r k
    · rw [decide_eq_true h, if_pos fun i hi => lt_of_le_of_lt (asc_monotone x r (show i.val ≤ k.val - 1 from by
        have : i.val < k.val := hi
        omega)) h]
      rfl
    · rw [decide_eq_false h, if_neg fun h' => h (h' _ (show k.val - 1 < k.val by omega))]
      rfl

/-- **The program's result**: the row's `j`-th largest distinct value. -/
theorem distV_apply (r : Fin 256) (j : Fin 8) : distV x (ix2 r j) = pk (img (row x r)) j := by
  have hj := j.isLt
  have e : distV x (ix2 r j) = - keptV x (ix2 r (ord (row (keptV x) r) ⟨j.val, by omega⟩)) := by
    have e1 := ValueIdx.slice2_axis1_apply (n0 := 256) (n1 := 2048) (m := 8) 0
      (Host.sort S256x2048 1 (comparator_f32_d1 (F := Ideal)) (keptV x)) slices_S256x2048_S256x8_0_0 r j
      ⟨j.val, by omega⟩ (Nat.zero_add _).symm
    have e2 := sort_apply (comparator_f32_d1 (F := Ideal)) cmp_eq (keptV x) r ⟨j.val, by omega⟩
    exact congrArg (fun t : EReal => - t) (e1.trans e2)
  rw [e, ← img_asc]
  exact (pk_kept (asc x r) (row (keptV x) r) (asc_monotone x r) (keptV_apply x r) (ord (row (keptV x) r)) (ord_injective _)
    (ord_surjective _) (ord_monotone _) ⟨j.val, by omega⟩).symm

/-- The run in closed form: the result buffer holds that value and the argument is unchanged. -/
theorem run_closed (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = distV (m ((c.tc : Thread nD τ).loc main_arg0))
      ∧ r.2.mem ((c.tc : Thread nD τ).loc main_arg0) = m ((c.tc : Thread nD τ).loc main_arg0) :=
  Value.run (F := Ideal) m ρ

end Distinct

end Cert.TopK
-- ==== Proof.lean ====
/-
# The certificate

The kernel runs to its end, keeps its arguments and returns every counter to zero, on bits and on the extended reals. Its
result is each row's eight largest distinct values, which is the reference's result wherever the row's largest values are
distinct.
-/
module

public import proofs.«01_k».proof.Defs
public import proofs.«01_k».proof.Proof.Frames
public import proofs.«01_k».proof.Proof.Whole
public import proofs.«01_k».proof.Proof.Untied
public import proofs.«01_k».proof.Proof.Ties
public import proofs.«01_k».proof.Proof.Distinct
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.DistinctIdeal
public import proofs.«01_k».proof.Proof.Gen.DistinctIdeal.Run
public import proofs.«01_k».proof.Proof.Gen.On_untied

@[expose] public section

noncomputable section

namespace Cert.Proof

open Idealize.ShloMosaic Idealize.SL.Sem

/-- The reference runs, keeps its argument and declares no counter. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- So does the program for the distinct values. -/
theorem frame_distinct : Cert.quiescent_DistinctIdeal := by
  intro m ρ _
  exact (θ_run Cert.DistinctIdeal.defs _ _).mono (fun r h => ⟨fun c => (h c).2,
      Idealize.ShloMosaic.sem_eq_zero_of_no_sems (by decide) r.2⟩)
    (Cert.DistinctIdeal.Value.run (F := Ideal) m ρ)

/-- The kernel and the reference agree at every entry of a row whose largest values, down to that entry, are distinct. -/
theorem value_untied : Cert.algebraic_KernelIdeal_ReferenceIdeal_on_untied := by
  intro m g m' g' _ hx
  refine ⟨Cert.TopK.outV m g, ?_, ?_⟩
  · exact (θ_run Cert.KernelIdeal.defs _ _).mono (fun r h c => ⟨fun i _ => congrFun (h c).1 i, (h c).2⟩)
      (Cert.TopK.run_closed (F := Ideal) m g)
  · refine (θ_run Cert.ReferenceIdeal.defs _ _).mono (fun r h => ⟨fun i hi => ?_, (h 0).2⟩)
      (Cert.TopK.Reference.run_closed m' g')
    refine (congrFun (h 0).1 i).trans ?_
    rw [ValueIdx.eq_ix2 i] at hi ⊢
    exact (Cert.TopK.Untied.refV_untied _ _ _ hi).trans (Cert.TopK.outV_whole m g _ hx _ _).symm

/-- The kernel returns each row's eight largest distinct values. -/
theorem value_distinct : Cert.algebraic_KernelIdeal_DistinctIdeal := by
  intro m g m' g' _ hx
  refine ⟨Cert.TopK.outV m g, Cert.TopK.run_closed (F := Ideal) m g, ?_⟩
  refine (θ_run Cert.DistinctIdeal.defs _ _).mono (fun r h => ⟨?_, (h 0).2⟩) (Cert.TopK.Distinct.run_closed m' g')
  refine (h 0).1.trans (funext fun i => ?_)
  rw [ValueIdx.eq_ix2 i]
  exact (Cert.TopK.Distinct.distV_apply _ _ _).trans (Cert.TopK.outV_whole m g _ hx _ _).symm

/-- Everything the certificate claims. -/
theorem claim : Cert.Claim := ⟨Cert.Kernel.Gen.facts, Cert.KernelIdeal.Gen.facts, Cert.ReferenceIdeal.Gen.facts,
  Cert.DistinctIdeal.Gen.facts, Cert.On_untied.Gen.facts,
  Cert.TopK.frame_kernel, Cert.TopK.frame_kernelIdeal, frame_reference, frame_distinct, trivial, value_untied, value_distinct⟩

end Cert.Proof

end
